-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S8192x768 : Shape := ⟨2, ![8192, 768]⟩
abbrev S4 : Shape := ⟨1, ![4]⟩
abbrev S4x4096x768 : Shape := ⟨3, ![4, 4096, 768]⟩
abbrev S4x4096 : Shape := ⟨2, ![4, 4096]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bitsLt_bf16_f32 : FTy.bits .bf16 < FTy.bits .f32
  bcast_S_S8192x768 : S_.BroadcastsInDim S8192x768 (![] : Fin 0 → Fin S8192x768.rank)

variable [Facts]

def fn {F : FTy → Type} [FloatOps F] (main_arg0 : FVec F S8192x768 .bf16) (main_arg1 : IVec S4 32) (main_arg2 : FVec F S4x4096x768 .fp8e4m3) (main_arg3 : FVec F S4x4096 .f32) : IVec S8192x768 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 8192#32
  let main_v2 : IVec S4 32 := broadcastInDim S4 ![] bcast_S_S4 main_c_0
  let main_v3 : IVec S4 1 := cmpi .sle main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_c_2 : IVec S_ 32 := constantI S_ 32 0#32
  let main_v6 : IVec S_ 32 := (fun x v => Host.reduce IntOp.addi x v reducesTo_S4_S_d0 h_S_) main_arg1 main_c_2
  let main_c_3 : IVec S_ 32 := constantI S_ 32 8192#32
  let main_v7 : IVec S_ 1 := cmpi .eq main_v6 main_c_3
  let main_v8 : IVec S_ 1 := andi main_v5 main_v7
  let main_v9 : FVec F S8192x768 .f32 := (extf .f32 · bitsLt_bf16_f32) main_arg0
  let main_v10 : FVec F S8192x768 .f32 := Host.absf main_v9
  let main_cst : FVec F S_ .f32 := constant S_ .f32 0x7F7F0000#32
  let main_v11 : FVec F S8192x768 .f32 := broadcastInDim S8192x768 ![] bcast_S_S8192x768 main_cst
  let main_v12 : IVec S8192x768 1 := cmpf .ole main_v10 main_v11
  let main_v13 : IVec S8192x768 1 := broadcastInDim S8192x768 ![] bcast_S_S8192x768 main_v8
  let main_v14 : IVec S8192x768 1 := andi main_v12 main_v13
  main_v14
-- ==== Kernel.lean ====
abbrev S8192x768 : Shape := ⟨2, ![8192, 768]⟩
abbrev S4 : Shape := ⟨1, ![4]⟩
abbrev S4x4096x768 : Shape := ⟨3, ![4, 4096, 768]⟩
abbrev S4x4096 : Shape := ⟨2, ![4, 4096]⟩
abbrev S8192x4096 : Shape := ⟨2, ![8192, 4096]⟩
abbrev S512x768 : Shape := ⟨2, ![512, 768]⟩
abbrev S512x4096 : Shape := ⟨2, ![512, 4096]⟩
abbrev S512 : Shape := ⟨1, ![512]⟩
abbrev S512x1 : Shape := ⟨2, ![512, 1]⟩
abbrev S1 : Shape := ⟨1, ![1]⟩
abbrev S1x512x768 : Shape := ⟨3, ![1, 512, 768]⟩
abbrev S512x512 : Shape := ⟨2, ![512, 512]⟩
abbrev S1x512 : Shape := ⟨2, ![1, 512]⟩

abbrev nBuf : Space → Nat
  | .hbm => 4
  | .vmem => 6
  | .smem => 1
  | _ => 0

abbrev bufTy : (tb : Table) → Fin (tcTables nBuf tb) → BufTy
  | .hbm, ⟨0, _⟩ => ⟨S8192x768, .bf16⟩
  | .hbm, ⟨1, _⟩ => ⟨S4x4096x768, .fp8e4m3⟩
  | .hbm, ⟨2, _⟩ => ⟨S4x4096, .f32⟩
  | .hbm, ⟨3, _⟩ => ⟨S8192x4096, .bf16⟩
  | .local _ .vmem, ⟨0, _⟩ => ⟨S512x768, .bf16⟩
  | .local _ .vmem, ⟨1, _⟩ => ⟨S512x768, .bf16⟩
  | .local _ .vmem, ⟨2, _⟩ => ⟨S4x4096x768, .fp8e4m3⟩
  | .local _ .vmem, ⟨3, _⟩ => ⟨S4x4096, .f32⟩
  | .local _ .vmem, ⟨4, _⟩ => ⟨S512x4096, .bf16⟩
  | .local _ .vmem, ⟨5, _⟩ => ⟨S512x4096, .bf16⟩
  | .local _ .smem, ⟨0, _⟩ => ⟨S4, .i32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v91 : BitVec 32) : BitVec 1 :=
  let c0_i32_17 : BitVec 32 := 0#32
  let v92 : BitVec 32 := Scalar.addi c0_i32_17 v91
  let arg0 : BitVec 32 := BitVec.ofNat 32 (i 0).val
  let c512_i32 : BitVec 32 := 512#32
  let v0 : BitVec 32 := Scalar.muli arg0 c512_i32
  let c512_i32_19 : BitVec 32 := 512#32
  let v94 : BitVec 32 := Scalar.addi v0 c512_i32_19
  let v95 : BitVec 32 := Scalar.minsi v92 v94
  let c0_i32_18 : BitVec 32 := 0#32
  let v93 : BitVec 32 := Scalar.maxsi c0_i32_18 v0
  let v96 : BitVec 1 := Scalar.cmpi .sgt v95 v93
  let v97 : BitVec 1 := Scalar.cmpi .eq v93 v0
  let v98 : BitVec 1 := Scalar.andi v96 v97
  let v99 : BitVec 32 := Scalar.extui v98
  let c0_i32_20 : BitVec 32 := 0#32
  let v100 : BitVec 1 := Scalar.cmpi .ne v99 c0_i32_20
  v100

def k0_cond2 (i : grid0.Coords) (v91 : BitVec 32) : BitVec 1 :=
  let c0_i32_17 : BitVec 32 := 0#32
  let v92 : BitVec 32 := Scalar.addi c0_i32_17 v91
  let arg0 : BitVec 32 := BitVec.ofNat 32 (i 0).val
  let c512_i32 : BitVec 32 := 512#32
  let v0 : BitVec 32 := Scalar.muli arg0 c512_i32
  let c512_i32_19 : BitVec 32 := 512#32
  let v94 : BitVec 32 := Scalar.addi v0 c512_i32_19
  let v95 : BitVec 32 := Scalar.minsi v92 v94
  let c0_i32_18 : BitVec 32 := 0#32
  let v93 : BitVec 32 := Scalar.maxsi c0_i32_18 v0
  let v101 : BitVec 1 := Scalar.cmpi .sgt v95 v93
  let v102 : BitVec 1 := Scalar.cmpi .sgt v93 v0
  let v103 : BitVec 1 := Scalar.andi v101 v102
  let v104 : BitVec 32 := Scalar.extui v103
  let c0_i32_21 : BitVec 32 := 0#32
  let v105 : BitVec 1 := Scalar.cmpi .ne v104 c0_i32_21
  v105

def k0_cond3 (i : grid0.Coords) (v91 : BitVec 32) (v106 : BitVec 32) : BitVec 1 :=
  let c0_i32_17 : BitVec 32 := 0#32
  let v92 : BitVec 32 := Scalar.addi c0_i32_17 v91
  let v107 : BitVec 32 := Scalar.addi v92 v106
  let arg0 : BitVec 32 := BitVec.ofNat 32 (i 0).val
  let c512_i32 : BitVec 32 := 512#32
  let v0 : BitVec 32 := Scalar.muli arg0 c512_i32
  let c512_i32_22 : BitVec 32 := 512#32
  let v109 : BitVec 32 := Scalar.addi v0 c512_i32_22
  let v110 : BitVec 32 := Scalar.minsi v107 v109
  let v108 : BitVec 32 := Scalar.maxsi v92 v0
  let v111 : BitVec 1 := Scalar.cmpi .sgt v110 v108
  let v112 : BitVec 1 := Scalar.cmpi .eq v108 v0
  let v113 : BitVec 1 := Scalar.andi v111 v112
  let v114 : BitVec 32 := Scalar.extui v113
  let c0_i32_23 : BitVec 32 := 0#32
  let v115 : BitVec 1 := Scalar.cmpi .ne v114 c0_i32_23
  v115

def k0_cond4 (i : grid0.Coords) (v91 : BitVec 32) (v106 : BitVec 32) : BitVec 1 :=
  let c0_i32_17 : BitVec 32 := 0#32
  let v92 : BitVec 32 := Scalar.addi c0_i32_17 v91
  let v107 : BitVec 32 := Scalar.addi v92 v106
  let arg0 : BitVec 32 := BitVec.ofNat 32 (i 0).val
  let c512_i32 : BitVec 32 := 512#32
  let v0 : BitVec 32 := Scalar.muli arg0 c512_i32
  let c512_i32_22 : BitVec 32 := 512#32
  let v109 : BitVec 32 := Scalar.addi v0 c512_i32_22
  let v110 : BitVec 32 := Scalar.minsi v107 v109
  let v108 : BitVec 32 := Scalar.maxsi v92 v0
  let v116 : BitVec 1 := Scalar.cmpi .sgt v110 v108
  let v117 : BitVec 1 := Scalar.cmpi .sgt v108 v0
  let v118 : BitVec 1 := Scalar.andi v116 v117
  let v119 : BitVec 32 := Scalar.extui v118
  let c0_i32_24 : BitVec 32 := 0#32
  let v120 : BitVec 1 := Scalar.cmpi .ne v119 c0_i32_24
  v120

def k0_cond5 (i : grid0.Coords) (v91 : BitVec 32) (v106 : BitVec 32) (v121 : BitVec 32) : BitVec 1 :=
  let c0_i32_17 : BitVec 32 := 0#32
  let v92 : BitVec 32 := Scalar.addi c0_i32_17 v91
  let v107 : BitVec 32 := Scalar.addi v92 v106
  let v122 : BitVec 32 := Scalar.addi v107 v121
  let arg0 : BitVec 32 := BitVec.ofNat 32 (i 0).val
  let c512_i32 : BitVec 32 := 512#32
  let v0 : BitVec 32 := Scalar.muli arg0 c512_i32
  let c512_i32_25 : BitVec 32 := 512#32
  let v124 : BitVec 32 := Scalar.addi v0 c512_i32_25
  let v125 : BitVec 32 := Scalar.minsi v122 v124
  let v123 : BitVec 32 := Scalar.maxsi v107 v0
  let v126 : BitVec 1 := Scalar.cmpi .sgt v125 v123
  let v127 : BitVec 1 := Scalar.cmpi .eq v123 v0
  let v128 : BitVec 1 := Scalar.andi v126 v127
  let v129 : BitVec 32 := Scalar.extui v128
  let c0_i32_26 : BitVec 32 := 0#32
  let v130 : BitVec 1 := Scalar.cmpi .ne v129 c0_i32_26
  v130

def k0_cond6 (i : grid0.Coords) (v91 : BitVec 32) (v106 : BitVec 32) (v121 : BitVec 32) : BitVec 1 :=
  let c0_i32_17 : BitVec 32 := 0#32
  let v92 : BitVec 32 := Scalar.addi c0_i32_17 v91
  let v107 : BitVec 32 := Scalar.addi v92 v106
  let v122 : BitVec 32 := Scalar.addi v107 v121
  let arg0 : BitVec 32 := BitVec.ofNat 32 (i 0).val
  let c512_i32 : BitVec 32 := 512#32
  let v0 : BitVec 32 := Scalar.muli arg0 c512_i32
  let c512_i32_25 : BitVec 32 := 512#32
  let v124 : BitVec 32 := Scalar.addi v0 c512_i32_25
  let v125 : BitVec 32 := Scalar.minsi v122 v124
  let v123 : BitVec 32 := Scalar.maxsi v107 v0
  let v131 : BitVec 1 := Scalar.cmpi .sgt v125 v123
  let v132 : BitVec 1 := Scalar.cmpi .sgt v123 v0
  let v133 : BitVec 1 := Scalar.andi v131 v132
  let v134 : BitVec 32 := Scalar.extui v133
  let c0_i32_27 : BitVec 32 := 0#32
  let v135 : BitVec 1 := Scalar.cmpi .ne v134 c0_i32_27
  v135

def k0_cond7 (i : grid0.Coords) (v91 : BitVec 32) (v106 : BitVec 32) (v121 : BitVec 32) (v136 : BitVec 32) : BitVec 1 :=
  let c0_i32_17 : BitVec 32 := 0#32
  let v92 : BitVec 32 := Scalar.addi c0_i32_17 v91
  let v107 : BitVec 32 := Scalar.addi v92 v106
  let v122 : BitVec 32 := Scalar.addi v107 v121
  let v137 : BitVec 32 := Scalar.addi v122 v136
  let arg0 : BitVec 32 := BitVec.ofNat 32 (i 0).val
  let c512_i32 : BitVec 32 := 512#32
  let v0 : BitVec 32 := Scalar.muli arg0 c512_i32
  let c512_i32_28 : BitVec 32 := 512#32
  let v139 : BitVec 32 := Scalar.addi v0 c512_i32_28
  let v140 : BitVec 32 := Scalar.minsi v137 v139
  let v138 : BitVec 32 := Scalar.maxsi v122 v0
  let v141 : BitVec 1 := Scalar.cmpi .sgt v140 v138
  let v142 : BitVec 1 := Scalar.cmpi .eq v138 v0
  let v143 : BitVec 1 := Scalar.andi v141 v142
  let v144 : BitVec 32 := Scalar.extui v143
  let c0_i32_29 : BitVec 32 := 0#32
  let v145 : BitVec 1 := Scalar.cmpi .ne v144 c0_i32_29
  v145

def k0_cond8 (i : grid0.Coords) (v91 : BitVec 32) (v106 : BitVec 32) (v121 : BitVec 32) (v136 : BitVec 32) : BitVec 1 :=
  let c0_i32_17 : BitVec 32 := 0#32
  let v92 : BitVec 32 := Scalar.addi c0_i32_17 v91
  let v107 : BitVec 32 := Scalar.addi v92 v106
  let v122 : BitVec 32 := Scalar.addi v107 v121
  let v137 : BitVec 32 := Scalar.addi v122 v136
  let arg0 : BitVec 32 := BitVec.ofNat 32 (i 0).val
  let c512_i32 : BitVec 32 := 512#32
  let v0 : BitVec 32 := Scalar.muli arg0 c512_i32
  let c512_i32_28 : BitVec 32 := 512#32
  let v139 : BitVec 32 := Scalar.addi v0 c512_i32_28
  let v140 : BitVec 32 := Scalar.minsi v137 v139
  let v138 : BitVec 32 := Scalar.maxsi v122 v0
  let v146 : BitVec 1 := Scalar.cmpi .sgt v140 v138
  let v147 : BitVec 1 := Scalar.cmpi .sgt v138 v0
  let v148 : BitVec 1 := Scalar.andi v146 v147
  let v149 : BitVec 32 := Scalar.extui v148
  let c0_i32_30 : BitVec 32 := 0#32
  let v150 : BitVec 1 := Scalar.cmpi .ne v149 c0_i32_30
  v150

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x768 : Shape := ⟨2, ![8192, 768]⟩
abbrev S4 : Shape := ⟨1, ![4]⟩
abbrev S4x4096x768 : Shape := ⟨3, ![4, 4096, 768]⟩
abbrev S4x4096 : Shape := ⟨2, ![4, 4096]⟩
abbrev S8192x4096 : Shape := ⟨2, ![8192, 4096]⟩
abbrev S8192 : Shape := ⟨1, ![8192]⟩
abbrev S8192x1 : Shape := ⟨2, ![8192, 1]⟩
abbrev S1x254 : Shape := ⟨2, ![1, 254]⟩
abbrev S8192x254 : Shape := ⟨2, ![8192, 254]⟩
abbrev S1 : Shape := ⟨1, ![1]⟩
abbrev S1x4096x768 : Shape := ⟨3, ![1, 4096, 768]⟩
abbrev S4096x768 : Shape := ⟨2, ![4096, 768]⟩
abbrev S1x4096 : Shape := ⟨2, ![1, 4096]⟩

abbrev nBuf : Space → Nat
  | .hbm => 5
  | .vmem => 4
  | .smem => 1
  | _ => 0

abbrev bufTy : (tb : Table) → Fin (tcTables nBuf tb) → BufTy
  | .hbm, ⟨0, _⟩ => ⟨S8192x768, .bf16⟩
  | .hbm, ⟨1, _⟩ => ⟨S4, .i32⟩
  | .hbm, ⟨2, _⟩ => ⟨S4x4096x768, .fp8e4m3⟩
  | .hbm, ⟨3, _⟩ => ⟨S4x4096, .f32⟩
  | .hbm, ⟨4, _⟩ => ⟨S8192x4096, .bf16⟩
  | .local _ .vmem, ⟨0, _⟩ => ⟨S8192x768, .bf16⟩
  | .local _ .vmem, ⟨1, _⟩ => ⟨S4x4096x768, .fp8e4m3⟩
  | .local _ .vmem, ⟨2, _⟩ => ⟨S4x4096, .f32⟩
  | .local _ .vmem, ⟨3, _⟩ => ⟨S8192x4096, .bf16⟩
  | .local _ .smem, ⟨0, _⟩ => ⟨S4, .i32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Tile.lean ====
/-
  One column tile of the grouped product: the two programs the kernel runs for an expert and a column tile (a plain
  store, and a store that keeps the rows above the expert's first row), their values, and what they leave in the
  output block.
-/
module

public import proofs.«01_k».proof.Proof.Gen.KernelIdeal.Skeleton
public import Idealize.ShloMosaic.Lib.Tactic
public import Idealize.ShloMosaic.Lib.Pipeline.Kit
public import Idealize.ShloMosaic.Lib.Pipeline.FrameBody
public import Idealize.ShloMosaic.Lib.WritesUnit

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Values -/

/-- The scaled product of one row block with one column tile of one expert's weights. -/
def prod (v75 : FVec F S512x1 .f32) (v87 : FVec F S512x768 .fp8e5m2) (w : Vec F S1x512x768 .fp8e4m3) (s : Vec F S1x512 .f32) :
    FVec F S512x512 .f32 :=
  mulf (mulf (matmul dot_S512x768_S512x768_S512x512_1_1_0_0_n_n none v87 (shapeCast S512x768 w shapeCasts_S1x512x768_S512x768)
      (constant S512x512 .f32 0x00000000#32)) (broadcastTo S512x512 v75 broadcasts_S512x1_S512x512))
    (broadcastTo S512x512 s broadcasts_S1x512_S512x512)

/-- What a plain visit stores in a column tile. -/
def payV (v75 : FVec F S512x1 .f32) (v87 : FVec F S512x768 .fp8e5m2) (w : Vec F S1x512x768 .fp8e4m3) (s : Vec F S1x512 .f32) :
    FVec F S512x512 .bf16 := truncf .bf16 (prod v75 v87 w s) bitsLt_bf16_f32

/-- What a merging visit stores: the product in the rows from `lo` on, the old contents above. -/
def payM (v75 : FVec F S512x1 .f32) (v87 : FVec F S512x768 .fp8e5m2) (v90 : IVec S512x1 32) (lo : BitVec 32)
    (w : Vec F S1x512x768 .fp8e4m3) (s : Vec F S1x512 .f32) (old : Vec F S512x512 .bf16) : FVec F S512x512 .bf16 :=
  truncf .bf16 (select (broadcastTo S512x512 (shapeCast S512x1 (cmpi .sge v90 (broadcast S512x1 lo)) shapeCasts_S512x1_S512x1)
      broadcasts_S512x1_S512x512) (prod v75 v87 w s)
    (extf .f32 (shapeCast S512x512 old shapeCasts_S512x512_S512x512) bitsLt_bf16_f32)) bitsLt_bf16_f32

/-! ## Rectangles -/

theorem inbW (g : Fin 4) (n : Fin 8) : ∀ a, (![g.val, 512 * n.val, 0] : Fin 3 → Nat) a + S1x512x768.size a ≤ S4x4096x768.size a := by
  intro a; have := g.isLt; have := n.isLt
  fin_cases a <;> simp [S1x512x768, S4x4096x768] <;> omega
theorem inbS (g : Fin 4) (n : Fin 8) : ∀ a, (![g.val, 512 * n.val] : Fin 2 → Nat) a + S1x512.size a ≤ S4x4096.size a := by
  intro a; have := g.isLt; have := n.isLt
  fin_cases a <;> simp [S1x512, S4x4096] <;> omega
theorem inbO (n : Fin 8) : ∀ a, (![0, 512 * n.val] : Fin 2 → Nat) a + S512x512.size a ≤ S512x4096.size a := by
  intro a; have := n.isLt
  fin_cases a <;> simp [S512x512, S512x4096] <;> omega

/-- The rectangle of expert `g`'s weights for column tile `n`; of its column scales; of the output block. -/
abbrev rectW (g : Fin 4) (n : Fin 8) : Rect S4x4096x768 := Rect.unit (s := S4x4096x768) ![g.val, 512 * n.val, 0] S1x512x768.size (inbW g n)
abbrev rectS (g : Fin 4) (n : Fin 8) : Rect S4x4096 := Rect.unit (s := S4x4096) ![g.val, 512 * n.val] S1x512.size (inbS g n)
abbrev rectO (n : Fin 8) : Rect S512x4096 := Rect.unit (s := S512x4096) ![0, 512 * n.val] S512x512.size (inbO n)

theorem packedO (n : Fin 8) : (rectO n).PackedRows (EltTy.packing .bf16) :=
  match n with
  | 0 => packedbf16_S512x4096_S512x512_0_0
  | 1 => packedbf16_S512x4096_S512x512_0_512
  | 2 => packedbf16_S512x4096_S512x512_0_1024
  | 3 => packedbf16_S512x4096_S512x512_0_1536
  | 4 => packedbf16_S512x4096_S512x512_0_2048
  | 5 => packedbf16_S512x4096_S512x512_0_2560
  | 6 => packedbf16_S512x4096_S512x512_0_3072
  | 7 => packedbf16_S512x4096_S512x512_0_3584

/-! ## Programs -/

section
variable (arg3 : Memref sig .tc .vmem S4x4096x768 .fp8e4m3) (arg4 : Memref sig .tc .vmem S4x4096 .f32)
  (arg5 : Memref sig .tc .vmem S512x4096 .bf16) (harg5 : arg5.IsWhole)
  (v75 : FVec F S512x1 .f32) (v87 : FVec F S512x768 .fp8e5m2) (v90 : IVec S512x1 32) (lo : BitVec 32) (g : Fin 4)

/-- The store of one column tile of the output block. -/
def storeTile (n : Fin 8) (p : FVec F S512x512 .bf16) : Prog (TpuEff nD τ sig (Elt F) Λ₀ .tc) PUnit :=
  Prog.lift (.store arg5 (rectO n) p Finset.univ (View.stores_vmem h_S512x512 (harg5.storeExact_slice rfl _ (packedO n)) (fun _ => rfl)) (.inl rfl))

/-- A plain visit of the column tiles in the list. -/
def visit : List (Fin 8) → Prog (TpuEff nD τ sig (Elt F) Λ₀ .tc) PUnit
  | [] => pure ⟨⟩
  | n :: l => do
    let w : Vec F S1x512x768 .fp8e4m3 ← Prog.lift (.load arg3 (rectW g n).toLoadRect (View.loadsAt_vmem h_S1x512x768))
    let s : Vec F S1x512 .f32 ← Prog.lift (.load arg4 (rectS g n).toLoadRect (View.loadsAt_vmem h_S1x512))
    let _ : Vec F S512x512 .bf16 ← Prog.lift (.load arg5 (rectO n).toLoadRect (View.loadsAt_vmem h_S512x512))
    storeTile arg5 harg5 n (payV v75 v87 w s)
    visit l

/-- A merging visit of the column tiles in the list. -/
def merge : List (Fin 8) → Prog (TpuEff nD τ sig (Elt F) Λ₀ .tc) PUnit
  | [] => pure ⟨⟩
  | n :: l => do
    let w : Vec F S1x512x768 .fp8e4m3 ← Prog.lift (.load arg3 (rectW g n).toLoadRect (View.loadsAt_vmem h_S1x512x768))
    let s : Vec F S1x512 .f32 ← Prog.lift (.load arg4 (rectS g n).toLoadRect (View.loadsAt_vmem h_S1x512))
    let old : Vec F S512x512 .bf16 ← Prog.lift (.load arg5 (rectO n).toLoadRect (View.loadsAt_vmem h_S512x512))
    let _ : Vec F S512x512 .bf16 ← Prog.lift (.load arg5 (rectO n).toLoadRect (View.loadsAt_vmem h_S512x512))
    storeTile arg5 harg5 n (payM v75 v87 v90 lo w s old)
    merge l

end

/-- All eight column tiles, in the order the kernel takes them. -/
abbrev tiles : List (Fin 8) := [0, 1, 2, 3, 4, 5, 6, 7]

/-! ## What they leave in the output block -/

/-- The block `Y` with column tile `n` replaced by `p`. -/
def put (n : Fin 8) (p : Vec F S512x512 .bf16) (Y : Vec F S512x4096 .bf16) : Vec F S512x4096 .bf16 := fun y =>
  if h : ∀ a, (![0, 512 * n.val] : Fin 2 → Nat) a ≤ (y a).val ∧ (y a).val < (![0, 512 * n.val] : Fin 2 → Nat) a + S512x512.size a then
    p (Rect.unitLocal (s := S512x4096) (off := ![0, 512 * n.val]) (size := S512x512.size) y h)
  else Y y

section
variable (W : Vec F S4x4096x768 .fp8e4m3) (S : Vec F S4x4096 .f32)
  (v75 : FVec F S512x1 .f32) (v87 : FVec F S512x768 .fp8e5m2) (v90 : IVec S512x1 32) (lo : BitVec 32) (g : Fin 4)

/-- The output block after a plain visit of the listed tiles; after a merging visit. -/
def visitVal : List (Fin 8) → Vec F S512x4096 .bf16 → Vec F S512x4096 .bf16
  | [], Y => Y
  | n :: l, Y => visitVal l (put n (payV v75 v87 (View.ld W (rectW g n)) (View.ld S (rectS g n))) Y)
def mergeVal : List (Fin 8) → Vec F S512x4096 .bf16 → Vec F S512x4096 .bf16
  | [], Y => Y
  | n :: l, Y => mergeVal l (put n (payM v75 v87 v90 lo (View.ld W (rectW g n)) (View.ld S (rectS g n)) (View.ld Y (rectO n))) Y)
end

/-! ## The triples -/

variable (𝒱 : Variants) (c : Dev nD) (E : Set ℕ) {α : Type} {Q : α → sProp (MT nD τ sig Unit (Elt F) ℕ (UR sig nD τ) ℕ)}

/-- A load through a rectangle, from an owned memref. -/
theorem owns_load {S : Shape} {e : EltTy} {sp : CoreSpace} {m : Memref sig .tc sp S e} {r : Rect S} {hl : m.view.LoadsAt r.toLoadRect}
    {k : (r.shape.Idx → Elt F e) → Prog (TpuEff nD τ sig (Elt F) Λ₀ .tc) α} (q : PosShare TreeShare) (X : S.Idx → Elt F e) :
    iprop(owns (c : Thread nD τ) m q X
        ∗ (owns (c : Thread nD τ) m q X -∗ wp frame (wpE (defs₀ (F := F)) 𝒱 (c : Thread nD τ) none) E (k (View.ld X r)) Q))
      ⊢ wp frame (wpE (defs₀ (F := F)) 𝒱 (c : Thread nD τ) none) E (.op (.load m r.toLoadRect hl) k) Q := by
  unfold owns
  iintro ⟨⟨%f, %hf, H⟩, Hk⟩
  iapply (wp_load 𝒱 (c : Thread nD τ) none E (hl := hl) (k := k) (q := q) (Q := Q)
    (View.setOn_subset_set _ _)) $$ H
  iintro H
  rw [View.readAt_eq_ld, hf]
  iapply Hk
  iexists f
  isplitr
  · ipureintro; exact hf
  · iexact H

/-- A store of a column tile of the output block. -/
theorem owns_storeTile {arg5 : Memref sig .tc .vmem S512x4096 .bf16} {harg5 : arg5.IsWhole} {n : Fin 8} {p : FVec F S512x512 .bf16}
    {k : PUnit → Prog (TpuEff nD τ sig (Elt F) Λ₀ .tc) α} (Y : Vec F S512x4096 .bf16) :
    iprop(owns (c : Thread nD τ) arg5 fullShare Y
        ∗ (owns (c : Thread nD τ) arg5 fullShare (put n p Y) -∗ wp frame (wpE (defs₀ (F := F)) 𝒱 (c : Thread nD τ) none) E (k ⟨⟩) Q))
      ⊢ wp frame (wpE (defs₀ (F := F)) 𝒱 (c : Thread nD τ) none) E (storeTile arg5 harg5 n p >>= k) Q := by
  unfold owns
  iintro ⟨⟨%f, %hf, H⟩, Hk⟩
  iapply (wp_store_writes₀ 𝒱 (c : Thread nD τ) none E (k := k) (Q := Q) (m := arg5) (r := rectO n) (w := p) (f := f)
    (View.set_slice_subset _ _)) $$ H
  iintro H
  iapply Hk
  iexists _
  isplitr
  · ipureintro
    show arg5.view.read (Elt F) (arg5.view.writes (Elt F) f [⟨rectO n, p⟩]) = put n p Y
    funext y
    rw [View.read_writes_cons_unit arg5.view f (inbO n) p [] y rfl]
    subst hf
    rfl
  · iexact H

section
variable {arg3 : Memref sig .tc .vmem S4x4096x768 .fp8e4m3} {arg4 : Memref sig .tc .vmem S4x4096 .f32}
  {arg5 : Memref sig .tc .vmem S512x4096 .bf16} {harg5 : arg5.IsWhole}
  {v75 : FVec F S512x1 .f32} {v87 : FVec F S512x768 .fp8e5m2} {v90 : IVec S512x1 32} {lo : BitVec 32} {g : Fin 4}
  (q3 q4 : PosShare TreeShare) (W : Vec F S4x4096x768 .fp8e4m3) (S : Vec F S4x4096 .f32)

/-- A plain visit, with what it leaves. -/
theorem wp_visit {k : PUnit → Prog (TpuEff nD τ sig (Elt F) Λ₀ .tc) α} (l : List (Fin 8)) (Y : Vec F S512x4096 .bf16) :
    iprop(owns (c : Thread nD τ) arg3 q3 W ∗ owns (c : Thread nD τ) arg4 q4 S ∗ owns (c : Thread nD τ) arg5 fullShare Y
        ∗ (iprop(owns (c : Thread nD τ) arg3 q3 W ∗ owns (c : Thread nD τ) arg4 q4 S
              ∗ owns (c : Thread nD τ) arg5 fullShare (visitVal W S v75 v87 g l Y))
            -∗ wp frame (wpE (defs₀ (F := F)) 𝒱 (c : Thread nD τ) none) E (k ⟨⟩) Q))
      ⊢ wp frame (wpE (defs₀ (F := F)) 𝒱 (c : Thread nD τ) none) E (visit arg3 arg4 arg5 harg5 v75 v87 g l >>= k) Q := by
  induction l generalizing Y with
  | nil =>
    iintro ⟨H3, H4, H5, Hk⟩
    iapply Hk
    isplitl [H3]; · iexact H3
    isplitl [H4]; · iexact H4
    iexact H5
  | cons n l ih =>
    iintro ⟨H3, H4, H5, Hk⟩
    iapply (owns_load 𝒱 c E q3 W)
    isplitl [H3]; · iexact H3
    iintro H3
    iapply (owns_load 𝒱 c E q4 S)
    isplitl [H4]; · iexact H4
    iintro H4
    iapply (owns_load 𝒱 c E fullShare Y)
    isplitl [H5]; · iexact H5
    iintro H5
    iapply (owns_storeTile 𝒱 c E (harg5 := harg5) Y)
    isplitl [H5]; · iexact H5
    iintro H5
    iapply (ih _)
    isplitl [H3]; · iexact H3
    isplitl [H4]; · iexact H4
    isplitl [H5]; · iexact H5
    iexact Hk

/-- A merging visit, with what it leaves. -/
theorem wp_merge {k : PUnit → Prog (TpuEff nD τ sig (Elt F) Λ₀ .tc) α} (l : List (Fin 8)) (Y : Vec F S512x4096 .bf16) :
    iprop(owns (c : Thread nD τ) arg3 q3 W ∗ owns (c : Thread nD τ) arg4 q4 S ∗ owns (c : Thread nD τ) arg5 fullShare Y
        ∗ (iprop(owns (c : Thread nD τ) arg3 q3 W ∗ owns (c : Thread nD τ) arg4 q4 S
              ∗ owns (c : Thread nD τ) arg5 fullShare (mergeVal W S v75 v87 v90 lo g l Y))
            -∗ wp frame (wpE (defs₀ (F := F)) 𝒱 (c : Thread nD τ) none) E (k ⟨⟩) Q))
      ⊢ wp frame (wpE (defs₀ (F := F)) 𝒱 (c : Thread nD τ) none) E (merge arg3 arg4 arg5 harg5 v75 v87 v90 lo g l >>= k) Q := by
  induction l generalizing Y with
  | nil =>
    iintro ⟨H3, H4, H5, Hk⟩
    iapply Hk
    isplitl [H3]; · iexact H3
    isplitl [H4]; · iexact H4
    iexact H5
  | cons n l ih =>
    iintro ⟨H3, H4, H5, Hk⟩
    iapply (owns_load 𝒱 c E q3 W)
    isplitl [H3]; · iexact H3
    iintro H3
    iapply (owns_load 𝒱 c E q4 S)
    isplitl [H4]; · iexact H4
    iintro H4
    iapply (owns_load 𝒱 c E fullShare Y)
    isplitl [H5]; · iexact H5
    iintro H5
    iapply (owns_load 𝒱 c E fullShare Y)
    isplitl [H5]; · iexact H5
    iintro H5
    iapply (owns_storeTile 𝒱 c E (harg5 := harg5) Y)
    isplitl [H5]; · iexact H5
    iintro H5
    iapply (ih _)
    isplitl [H3]; · iexact H3
    isplitl [H4]; · iexact H4
    isplitl [H5]; · iexact H5
    iexact Hk

end

end Cert.KernelIdeal.Body

end
-- ==== Proof.Body.lean ====
/-
  The kernel body in a normal form: the quantiser's values, then expert by expert a plain and a merging visit of the
  column tiles, each under its condition.
-/
module

public import proofs.«01_k».proof.Proof.Tile
public import Idealize.ShloMosaic.Lib.Pipeline.Regions

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The quantiser's values -/

/-- The row maxima of absolute values, over the largest finite code. -/
def tOf (x : Vec F S512x768 .bf16) : FVec F S512x1 .f32 :=
  mulf (shapeCast S512x1 (multiReduction .maximumf [1] S512 (absf (extf .f32 x bitsLt_bf16_f32)) 0xFF800000#32
    reduces_S512x768_S512 (.inl rfl) rfl) shapeCasts_S512_S512x1) (broadcast S512x1 (Scalar.ofBits .f32 0x37924925#32))

/-- One step of the search for the exponent field: `b + d` unless `t` is below the number of that field. -/
def stepE (t : FVec F S512x1 .f32) (d : BitVec 32) (b : IVec S512x1 32) : IVec S512x1 32 :=
  select (cmpf .olt t (bitcastToFloat .f32 (shli (addi b (broadcast S512x1 d)) (broadcast S512x1 23#32)))) b
    (addi b (broadcast S512x1 d))

/-- The exponent field of `t`. -/
def fieldE (t : FVec F S512x1 .f32) : IVec S512x1 32 :=
  stepE t 1#32 <| stepE t 2#32 <| stepE t 4#32 <| stepE t 8#32 <| stepE t 16#32 <| stepE t 32#32 <| stepE t 64#32 <|
    stepE t 128#32 (broadcast S512x1 0#32)

/-- The scale's exponent. -/
def expE (t : FVec F S512x1 .f32) : IVec S512x1 32 :=
  select (cmpi .eq (fieldE t) (broadcast S512x1 0#32)) (broadcast S512x1 0#32) (subi (fieldE t) (broadcast S512x1 126#32))

/-- The rows' scales. -/
def scaleOf (x : Vec F S512x768 .bf16) : FVec F S512x1 .f32 :=
  bitcastToFloat .f32 (shli (addi (expE (tOf x)) (broadcast S512x1 127#32)) (broadcast S512x1 23#32))

/-- The rows' codes. -/
def codesOf (x : Vec F S512x768 .bf16) : FVec F S512x768 .fp8e5m2 :=
  truncf .fp8e5m2 (minimumf (broadcast S512x768 (Scalar.ofBits .f32 0x47600000#32))
    (maximumf (broadcast S512x768 (Scalar.ofBits .f32 0xC7600000#32))
      (mulf (extf .f32 x bitsLt_bf16_f32) (broadcastTo S512x768
        (bitcastToFloat .f32 (shli (subi (broadcast S512x1 127#32) (expE (tOf x))) (broadcast S512x1 23#32)))
        broadcasts_S512x1_S512x768)))) bitsLt_fp8e5m2_f32

/-- The first row of the block; the rows of the block. -/
def rowOf (i : grid0.Coords) : BitVec 32 := Scalar.muli (BitVec.ofNat 32 (i 0).val) 512#32
def rowsOf (r : BitVec 32) : IVec S512x1 32 := addi (broadcast S512x1 r) (iota .tc S512x1 32 [0] iota_S512x1_d0_w32)

/-! ## An expert's share of a block -/

/-- Its first row in the block; the plain visit's condition; the merging visit's. -/
def loOf (r s : BitVec 32) : BitVec 32 := Scalar.maxsi s r
def condV (r s e : BitVec 32) : BitVec 1 :=
  Scalar.cmpi .ne (Scalar.extui (Scalar.andi (Scalar.cmpi .sgt (Scalar.minsi e (Scalar.addi r 512#32)) (loOf r s))
    (Scalar.cmpi .eq (loOf r s) r))) 0#32
def condM (r s e : BitVec 32) : BitVec 1 :=
  Scalar.cmpi .ne (Scalar.extui (Scalar.andi (Scalar.cmpi .sgt (Scalar.minsi e (Scalar.addi r 512#32)) (loOf r s))
    (Scalar.cmpi .sgt (loOf r s) r))) 0#32

section
variable (arg3 : Memref sig .tc .vmem S4x4096x768 .fp8e4m3) (arg4 : Memref sig .tc .vmem S4x4096 .f32)
  (arg5 : Memref sig .tc .vmem S512x4096 .bf16) (harg5 : arg5.IsWhole)
  (v75 : FVec F S512x1 .f32) (v87 : FVec F S512x768 .fp8e5m2) (v90 : IVec S512x1 32) (r : BitVec 32)

/-- An expert's two visits, each under its condition, then the rest. -/
def expert (g : Fin 4) (s e : BitVec 32) (rest : Prog (TpuEff nD τ sig (Elt F) Λ₀ .tc) PUnit) : Prog (TpuEff nD τ sig (Elt F) Λ₀ .tc) PUnit :=
  (if condV r s e = 1#1 then visit arg3 arg4 arg5 harg5 v75 v87 g tiles else .ret ⟨⟩) >>= fun _ =>
  (if condM r s e = 1#1 then merge arg3 arg4 arg5 harg5 v75 v87 v90 (loOf r s) g tiles else .ret ⟨⟩) >>= fun _ => rest

end

/-- The rectangle of one size in the table. -/
abbrev rectT (g : Nat) (h : ∀ a, (![g] : Fin 1 → Nat) a + S1.size a ≤ S4.size a) : Rect S4 := Rect.unit (s := S4) ![g] S1.size h

/-- The body's normal form. -/
def normal (i : grid0.Coords) (arg1 : Memref sig .tc .smem S4 .i32) (arg2 : Memref sig .tc .vmem S512x768 .bf16)
    (arg3 : Memref sig .tc .vmem S4x4096x768 .fp8e4m3) (arg4 : Memref sig .tc .vmem S4x4096 .f32)
    (arg5 : Memref sig .tc .vmem S512x4096 .bf16) (harg5 : arg5.IsWhole) : Prog (TpuEff nD τ sig (Elt F) Λ₀ .tc) PUnit :=
  .op (.load arg2 (Rect.unit (s := S512x768) ![0, 0] S512x768.size inb_S512x768_S512x768_0_0).toLoadRect (View.loadsAt_vmem h_S512x768))
    fun x : Vec F S512x768 .bf16 =>
  smemLoad arg1 (rectT 0 inb_S4_S1_0) numel1_S1 rfl >>= fun n0 : Elt F .i32 =>
  expert arg3 arg4 arg5 harg5 (scaleOf x) (codesOf x) (rowsOf (rowOf i)) (rowOf i) 0 0#32 (Scalar.addi 0#32 n0) <|
  smemLoad arg1 (rectT 1 inb_S4_S1_1) numel1_S1 rfl >>= fun n1 : Elt F .i32 =>
  expert arg3 arg4 arg5 harg5 (scaleOf x) (codesOf x) (rowsOf (rowOf i)) (rowOf i) 1 (Scalar.addi 0#32 n0) (Scalar.addi (Scalar.addi 0#32 n0) n1) <|
  smemLoad arg1 (rectT 2 inb_S4_S1_2) numel1_S1 rfl >>= fun n2 : Elt F .i32 =>
  expert arg3 arg4 arg5 harg5 (scaleOf x) (codesOf x) (rowsOf (rowOf i)) (rowOf i) 2 (Scalar.addi (Scalar.addi 0#32 n0) n1)
    (Scalar.addi (Scalar.addi (Scalar.addi 0#32 n0) n1) n2) <|
  smemLoad arg1 (rectT 3 inb_S4_S1_3) numel1_S1 rfl >>= fun n3 : Elt F .i32 =>
  expert arg3 arg4 arg5 harg5 (scaleOf x) (codesOf x) (rowsOf (rowOf i)) (rowOf i) 3 (Scalar.addi (Scalar.addi (Scalar.addi 0#32 n0) n1) n2)
    (Scalar.addi (Scalar.addi (Scalar.addi (Scalar.addi 0#32 n0) n1) n2) n3) <| .ret ⟨⟩

/-! ## The printed body is the normal form -/

theorem op_congr {Eff : Type → Type} {α β : Type} {e : Eff β} {k k' : β → Prog Eff α} (h : ∀ x, k x = k' x) : Prog.op e k = Prog.op e k' :=
  congrArg _ (funext h)

/-- A conditional whose two branches go on alike, as a conditional followed by what they go on with. -/
theorem dite_join {Eff : Type → Type} {α : Type} {c : Prop} {_ : Decidable c} {A : Prog Eff PUnit} {J J' : Prog Eff α}
    {T : c → Prog Eff α} {El : ¬c → Prog Eff α} (hE : ∀ h, El h = J) (hT : ∀ h, T h = A >>= fun _ => J) (hJ : J = J') :
    dite c T El = (if c then A else .ret ⟨⟩) >>= fun _ => J' := by
  by_cases h : c
  · rw [dif_pos h, if_pos h, hT, hJ]
  · rw [dif_neg h, if_neg h, hE, hJ]; rfl

/-- The same under what follows the conditional. -/
theorem dite_bind_join {Eff : Type → Type} {α β : Type} {c : Prop} {_ : Decidable c} {A : Prog Eff PUnit} {J J' : Prog Eff α}
    {T : c → Prog Eff β} {El : ¬c → Prog Eff β} {k : β → Prog Eff α} (hE : ∀ h, El h >>= k = J)
    (hT : ∀ h, T h >>= k = A >>= fun _ => J) (hJ : J = J') :
    dite c T El >>= k = (if c then A else .ret ⟨⟩) >>= fun _ => J' := by
  by_cases h : c
  · rw [dif_pos h, if_pos h, hT, hJ]
  · rw [dif_neg h, if_neg h, hE, hJ]; rfl

set_option maxRecDepth 65536 in
theorem body_eq (i : grid0.Coords) (arg1 : Memref sig .tc .smem S4 .i32) (harg1 : arg1.IsWhole) (arg2 : Memref sig .tc .vmem S512x768 .bf16)
    (harg2 : arg2.IsWhole) (arg3 : Memref sig .tc .vmem S4x4096x768 .fp8e4m3) (harg3 : arg3.IsWhole) (arg4 : Memref sig .tc .vmem S4x4096 .f32)
    (harg4 : arg4.IsWhole) (arg5 : Memref sig .tc .vmem S512x4096 .bf16) (harg5 : arg5.IsWhole) :
    cc0_grouped_dgrad (F := F) i arg1 harg1 arg2 harg2 arg3 harg3 arg4 harg4 arg5 harg5 = normal i arg1 arg2 arg3 arg4 arg5 harg5 := by
  rw [cc0_grouped_dgrad_eq_skeleton]
  refine op_congr fun x => ?_
  refine op_congr fun n0 => ?_
  refine dite_bind_join (fun _ => rfl) (fun _ => by chain_rfl) ?_
  refine dite_bind_join (fun _ => rfl) (fun _ => by chain_rfl) ?_
  refine op_congr fun n1 => ?_
  refine dite_bind_join (fun _ => rfl) (fun _ => by chain_rfl) ?_
  refine dite_bind_join (fun _ => rfl) (fun _ => by chain_rfl) ?_
  refine op_congr fun n2 => ?_
  refine dite_join (fun _ => rfl) (fun _ => by chain_rfl) ?_
  refine dite_join (fun _ => rfl) (fun _ => by chain_rfl) ?_
  refine op_congr fun n3 => ?_
  refine dite_join (fun _ => rfl) (fun _ => by chain_rfl) ?_
  refine dite_join (fun _ => rfl) (fun _ => by chain_rfl) ?_
  rfl

end Cert.KernelIdeal.Body

end
-- ==== Proof.Triple.lean ====
/-
  The kernel body's triple: from the table, the row block, the weights, the column scales and the output block, what it
  leaves in the output block.
-/
module

public import proofs.«01_k».proof.Proof.Body
public import Idealize.ShloMosaic.Lib.Pipeline.Value

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the body leaves in the output block -/

section
variable (W : Vec F S4x4096x768 .fp8e4m3) (S : Vec F S4x4096 .f32)

/-- The output block after an expert's two visits: its rows from `s` to `e`, the block starting at row `r`. -/
def expertVal (v75 : FVec F S512x1 .f32) (v87 : FVec F S512x768 .fp8e5m2) (v90 : IVec S512x1 32) (r : BitVec 32) (g : Fin 4) (s e : BitVec 32)
    (Y : Vec F S512x4096 .bf16) : Vec F S512x4096 .bf16 :=
  let Y' := if condV r s e = 1#1 then visitVal W S v75 v87 g tiles Y else Y
  if condM r s e = 1#1 then mergeVal W S v75 v87 v90 (loOf r s) g tiles Y' else Y'

/-- The size of expert `g`'s group. -/
def word (T : Vec F S4 .i32) (g : Nat) (h : ∀ a, (![g] : Fin 1 → Nat) a + S1.size a ≤ S4.size a) : BitVec 32 :=
  View.ld T (rectT g h) (Shape.Idx.first (numel1_S1.symm ▸ Nat.one_pos))

/-- The ends of the experts' groups. -/
def end0 (T : Vec F S4 .i32) : BitVec 32 := Scalar.addi 0#32 (word T 0 inb_S4_S1_0)
def end1 (T : Vec F S4 .i32) : BitVec 32 := Scalar.addi (end0 T) (word T 1 inb_S4_S1_1)
def end2 (T : Vec F S4 .i32) : BitVec 32 := Scalar.addi (end1 T) (word T 2 inb_S4_S1_2)
def end3 (T : Vec F S4 .i32) : BitVec 32 := Scalar.addi (end2 T) (word T 3 inb_S4_S1_3)

/-- The output block after the body, from the row block `x` and the block's first row `r`. -/
def blockVal (T : Vec F S4 .i32) (x : Vec F S512x768 .bf16) (r : BitVec 32) (Y : Vec F S512x4096 .bf16) : Vec F S512x4096 .bf16 :=
  expertVal W S (scaleOf x) (codesOf x) (rowsOf r) r 3 (end2 T) (end3 T) <|
  expertVal W S (scaleOf x) (codesOf x) (rowsOf r) r 2 (end1 T) (end2 T) <|
  expertVal W S (scaleOf x) (codesOf x) (rowsOf r) r 1 (end0 T) (end1 T) <|
  expertVal W S (scaleOf x) (codesOf x) (rowsOf r) r 0 0#32 (end0 T) Y
end

/-! ## The triples -/

variable (𝒱 : Variants) (c : Dev nD) (E : Set ℕ) {Q : PUnit → sProp (MT nD τ sig Unit (Elt F) ℕ (UR sig nD τ) ℕ)}

section
variable {arg3 : Memref sig .tc .vmem S4x4096x768 .fp8e4m3} {arg4 : Memref sig .tc .vmem S4x4096 .f32}
  {arg5 : Memref sig .tc .vmem S512x4096 .bf16} {harg5 : arg5.IsWhole}
  {v75 : FVec F S512x1 .f32} {v87 : FVec F S512x768 .fp8e5m2} {v90 : IVec S512x1 32} {r s e : BitVec 32} {g : Fin 4}
  (q3 q4 : PosShare TreeShare) (W : Vec F S4x4096x768 .fp8e4m3) (S : Vec F S4x4096 .f32)

/-- An expert's two visits. -/
theorem  wp_expert {rest : Prog (TpuEff nD τ sig (Elt F) Λ₀ .tc) PUnit} (Y : Vec F S512x4096 .bf16) :
    iprop(owns (c : Thread nD τ) arg3 q3 W ∗ owns (c : Thread nD τ) arg4 q4 S ∗ owns (c : Thread nD τ) arg5 fullShare Y
        ∗ (iprop(owns (c : Thread nD τ) arg3 q3 W ∗ owns (c : Thread nD τ) arg4 q4 S
              ∗ owns (c : Thread nD τ) arg5 fullShare (expertVal W S v75 v87 v90 r g s e Y))
            -∗ wp frame (wpE (defs₀ (F := F)) 𝒱 (c : Thread nD τ) none) E rest Q))
      ⊢ wp frame (wpE (defs₀ (F := F)) 𝒱 (c : Thread nD τ) none) E (expert arg3 arg4 arg5 harg5 v75 v87 v90 r g s e rest) Q := by
  have hM (Y' : Vec F S512x4096 .bf16) :
      iprop(owns (c : Thread nD τ) arg3 q3 W ∗ owns (c : Thread nD τ) arg4 q4 S ∗ owns (c : Thread nD τ) arg5 fullShare Y'
        ∗ (iprop(owns (c : Thread nD τ) arg3 q3 W ∗ owns (c : Thread nD τ) arg4 q4 S
              ∗ owns (c : Thread nD τ) arg5 fullShare
                (if condM r s e = 1#1 then mergeVal W S v75 v87 v90 (loOf r s) g tiles Y' else Y'))
            -∗ wp frame (wpE (defs₀ (F := F)) 𝒱 (c : Thread nD τ) none) E rest Q))
      ⊢ wp frame (wpE (defs₀ (F := F)) 𝒱 (c : Thread nD τ) none) E
          ((if condM r s e = 1#1 then merge arg3 arg4 arg5 harg5 v75 v87 v90 (loOf r s) g tiles else .ret ⟨⟩) >>= fun _ => rest) Q := by
    by_cases h : condM r s e = 1#1
    · rw [if_pos h, if_pos h]
      exact wp_merge 𝒱 c E q3 q4 W S (k := fun _ => rest) tiles Y'
    · rw [if_neg h, if_neg h]
      iintro ⟨H3, H4, H5, Hk⟩
      iapply Hk
      isplitl [H3]; · iexact H3
      isplitl [H4]; · iexact H4
      iexact H5
  unfold expert expertVal
  by_cases h : condV r s e = 1#1
  · rw [if_pos h, if_pos h]
    iintro ⟨H3, H4, H5, Hk⟩
    iapply (wp_visit 𝒱 c E q3 q4 W S tiles Y)
    isplitl [H3]; · iexact H3
    isplitl [H4]; · iexact H4
    isplitl [H5]; · iexact H5
    iintro ⟨H3, H4, H5⟩
    iapply (hM _)
    isplitl [H3]; · iexact H3
    isplitl [H4]; · iexact H4
    isplitl [H5]; · iexact H5
    iexact Hk
  · rw [if_neg h, if_neg h]
    exact hM Y

end

/-- The body. -/
theorem wp_body (i : grid0.Coords) (arg1 : Memref sig .tc .smem S4 .i32) (harg1 : arg1.IsWhole) (arg2 : Memref sig .tc .vmem S512x768 .bf16)
    (harg2 : arg2.IsWhole) (arg3 : Memref sig .tc .vmem S4x4096x768 .fp8e4m3) (harg3 : arg3.IsWhole) (arg4 : Memref sig .tc .vmem S4x4096 .f32)
    (harg4 : arg4.IsWhole) (arg5 : Memref sig .tc .vmem S512x4096 .bf16) (harg5 : arg5.IsWhole) (q1 q2 q3 q4 : PosShare TreeShare)
    (T : Vec F S4 .i32) (x : Vec F S512x768 .bf16) (W : Vec F S4x4096x768 .fp8e4m3) (S : Vec F S4x4096 .f32) (Y : Vec F S512x4096 .bf16) :
    iprop(owns (c : Thread nD τ) arg1 q1 T ∗ owns (c : Thread nD τ) arg2 q2 x ∗ owns (c : Thread nD τ) arg3 q3 W
        ∗ owns (c : Thread nD τ) arg4 q4 S ∗ owns (c : Thread nD τ) arg5 fullShare Y
        ∗ (iprop(owns (c : Thread nD τ) arg1 q1 T ∗ owns (c : Thread nD τ) arg2 q2 x ∗ owns (c : Thread nD τ) arg3 q3 W
              ∗ owns (c : Thread nD τ) arg4 q4 S ∗ owns (c : Thread nD τ) arg5 fullShare (blockVal W S T x (rowOf i) Y)) -∗ Q ⟨⟩))
      ⊢ wp frame (wpE (defs₀ (F := F)) 𝒱 (c : Thread nD τ) none) E
          (cc0_grouped_dgrad i arg1 harg1 arg2 harg2 arg3 harg3 arg4 harg4 arg5 harg5) Q := by
  have hx : View.ld x (Rect.unit (s := S512x768) ![0, 0] S512x768.size inb_S512x768_S512x768_0_0) = x :=
    View.ld_unit_zero (by funext a; fin_cases a <;> rfl) _ x
  rw [body_eq]
  unfold normal
  iintro ⟨H1, H2, H3, H4, H5, Hk⟩
  iapply (owns_load 𝒱 c E q2 x)
  isplitl [H2]; · iexact H2
  iintro H2
  rw [hx]
  iapply (owns_load 𝒱 c E q1 T)
  isplitl [H1]; · iexact H1
  iintro H1
  iapply (wp_expert 𝒱 c E q3 q4 W S Y)
  isplitl [H3]; · iexact H3
  isplitl [H4]; · iexact H4
  isplitl [H5]; · iexact H5
  iintro ⟨H3, H4, H5⟩
  iapply (owns_load 𝒱 c E q1 T)
  isplitl [H1]; · iexact H1
  iintro H1
  iapply (wp_expert 𝒱 c E q3 q4 W S _)
  isplitl [H3]; · iexact H3
  isplitl [H4]; · iexact H4
  isplitl [H5]; · iexact H5
  iintro ⟨H3, H4, H5⟩
  iapply (owns_load 𝒱 c E q1 T)
  isplitl [H1]; · iexact H1
  iintro H1
  iapply (wp_expert 𝒱 c E q3 q4 W S _)
  isplitl [H3]; · iexact H3
  isplitl [H4]; · iexact H4
  isplitl [H5]; · iexact H5
  iintro ⟨H3, H4, H5⟩
  iapply (owns_load 𝒱 c E q1 T)
  isplitl [H1]; · iexact H1
  iintro H1
  iapply (wp_expert 𝒱 c E q3 q4 W S _)
  isplitl [H3]; · iexact H3
  isplitl [H4]; · iexact H4
  isplitl [H5]; · iexact H5
  iintro ⟨H3, H4, H5⟩
  rw [wp_ret]; imodintro
  iapply Hk
  isplitl [H1]; · iexact H1
  isplitl [H2]; · iexact H2
  isplitl [H3]; · iexact H3
  isplitl [H4]; · iexact H4
  iexact H5

end Cert.KernelIdeal.Body

end
-- ==== Proof.Run.lean ====
/-
  The kernel's run: the pipeline's proof data, the body obligation, and what every run ends with.
-/
module

public import proofs.«01_k».proof.Proof.Triple
public import proofs.«01_k».proof.Proof.Gen.KernelIdeal.Launch

@[expose] public section

noncomputable section

namespace Cert.KernelIdeal.Run

open Cert.KernelIdeal Cert.KernelIdeal.Gen Cert.KernelIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

variable (m : (ℓ : Loc nD τ sig) → Buf (Elt F) ℓ) (ρ : Dev nD → PrngReg)

/-- The buffers at entry. -/
abbrev V (c : Dev nD) (b : Ref sig .tc) : Buf (Elt F) ((c : Thread nD τ).loc b) := m ((c : Thread nD τ).loc b)

/-- The table's contents at entry. -/
abbrev adm : (p : Fin 1) → (pcfgs (F := F) p).Adm := fun _ => ⟨fun k => V m 0 (pre0.ref k), trivial⟩

/-- The row block of point `t`. -/
def xblk (c : Dev nD) (t : Fin grid0.N) : Vec F S512x768 .bf16 :=
  ((win0 (adm m 0) 0).blk t).view.read (Elt F) (V m c (Pipeline.arrRef spec0 0))

/-- The proof data: inputs stay, the output block changes as the body's triple says. -/
def rdat (c : Dev nD) : RDat τ (Elt F) Unit ℕ (UR sig nD τ) ℕ (cfg0 (adm m 0)) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = blockVal (V m c main_arg2) (V m c main_arg3) (V m c main_arg1) (xblk m c t) (rowOf (grid0.coords t)) Y
  Φ _ := iprop(Pipeline.ΦA spec0 c ∗ Pipeline.ΦT pre0 (adm m 0).1 c)
  q _ := fullShare
  owed _ := 0

/-! ## What the body finds -/

theorem A_eq (c : Dev nD) (w : Fin 4) : (rdat m c).A w = V m c (Pipeline.arrRef spec0 w) := rfl
theorem after_in (c : Dev nD) (w : Fin 4) (hw : w ≠ 3) (t) (Y X) (h : (rdat m c).after w t Y X) : X = Y := by
  match w, hw with
  | 0, _ => exact h
  | 1, _ => exact h
  | 2, _ => exact h
  | 3, h => exact absurd rfl h
theorem after_out (c : Dev nD) (t) (Y X) : (rdat m c).after 3 t Y X ↔
    X = blockVal (V m c main_arg2) (V m c main_arg3) (V m c main_arg1) (xblk m c t) (rowOf (grid0.coords t)) Y := Iff.rfl

/-- The row block is found at every point. -/
theorem finds_x (c : Dev nD) (t : Fin grid0.N) (Y) (h : (rdat m c).Finds 0 t Y) : Y = xblk m c t := by
  obtain ⟨d, rfl⟩ := (rdat m c).finds_in_eq_fetched 0 rfl (fun _ _ _ => rfl) (fun t Y X => after_in m c 0 (by decide) t Y X) t Y h
  rfl

/-- The weights are found whole at every point, and the column scales. -/
theorem finds_w (c : Dev nD) (t : Fin grid0.N) (Y) (h : (rdat m c).Finds 1 t Y) : Y = V m c main_arg2 := by
  obtain ⟨d, rfl⟩ := (rdat m c).finds_in_eq_fetched 1 rfl (fun _ _ _ => rfl) (fun t Y X => after_in m c 1 (by decide) t Y X) t Y h
  show ((win0 (adm m 0) 1).blk t).view.read (Elt F) (V m c main_arg2) = _
  funext y
  refine congrArg (V m c main_arg2) (funext fun a => Fin.ext ?_)
  exact Pipeline.Window.rect_emb_val_of_index_zero (win0 (adm m 0) 1) t a (by fin_cases a <;> rfl) y
theorem finds_s (c : Dev nD) (t : Fin grid0.N) (Y) (h : (rdat m c).Finds 2 t Y) : Y = V m c main_arg3 := by
  obtain ⟨d, rfl⟩ := (rdat m c).finds_in_eq_fetched 2 rfl (fun _ _ _ => rfl) (fun t Y X => after_in m c 2 (by decide) t Y X) t Y h
  show ((win0 (adm m 0) 2).blk t).view.read (Elt F) (V m c main_arg3) = _
  funext y
  refine congrArg (V m c main_arg3) (funext fun a => Fin.ext ?_)
  exact Pipeline.Window.rect_emb_val_of_index_zero (win0 (adm m 0) 2) t a (by fin_cases a <;> rfl) y

/-! ## The body obligation -/

/-- The body at point `t`, on the point's staging buffers. -/
abbrev ms (t : Fin grid0.N) (w : Fin 4) := ((cfg0 (adm m 0)).win w).stage ((cfg0 (adm m 0)).slots t w)

theorem body_obligation (c : Dev nD) : (rdat m c).BodyObligation (defs₀ (F := F)) Variants.none () Set.univ := fun t Y hY => by
  have hx := finds_x m c t (Y 0) (hY 0)
  have hw := finds_w m c t (Y 1) (hY 1)
  have hs := finds_s m c t (Y 2) (hY 2)
  rw [show (rdat m c).Φ t.succ = (rdat m c).Φ t.castSucc from rfl,
    show (rdat m c).owesAt () t.succ = (rdat m c).owesAt () t.castSucc from rfl,
    show (rdat m c).Φ t.castSucc = iprop(Pipeline.ΦA spec0 c ∗ Pipeline.ΦT pre0 (adm m 0).1 c) from rfl]
  have hT : (Pipeline.ΦT (U := UR sig nD τ) pre0 (adm m 0).1 c : sProp (MT nD τ sig Unit (Elt F) ℕ (UR sig nD τ) ℕ)) = owns (c : Thread nD τ) (Memref.whole main_arg1) fullShare.right (V m c main_arg1) := by
    rw [owns_whole]
    obtain rfl : c = 0 := Subsingleton.elim _ _
    unfold Pipeline.ΦT Pipeline.prefHeld
    rw [bigSep_univ_of_subsingleton (0 : Fin 1)]
    rfl
  rw [hT, bigSep_W0, bigSep_W0]
  unfold defs₀; rw [Defs.onTc_tc]
  iintro ⟨⟨HA, HT⟩, Ho, H0, H1, H2, H3⟩
  iapply (wp_body Variants.none c Set.univ (grid0.coords t) _ _ _ _ _ _ _ _ _ _ _ _ _ _ (V m c main_arg1) (xblk m c t) (V m c main_arg2) (V m c main_arg3) (Y 3))
  isplitl [HT]; · iexact HT
  isplitl [H0]; · rw [← hx]; iexact H0
  isplitl [H1]; · rw [← hw]; iexact H1
  isplitl [H2]; · rw [← hs]; iexact H2
  isplitl [H3]; · iexact H3
  iintro ⟨HT, H0, H1, H2, H3⟩
  isplitl [HA HT]
  · isplitl [HA]; · iexact HA
    iexact HT
  isplitl [Ho]; · iexact Ho
  isplitl [H0]
  · iexists (Y 0); isplitr; · ipureintro; rfl
    rw [hx]; iexact H0
  isplitl [H1]
  · iexists (Y 1); isplitr; · ipureintro; rfl
    rw [hw]; iexact H1
  isplitl [H2]
  · iexists (Y 2); isplitr; · ipureintro; rfl
    rw [hs]; iexact H2
  · iexists _; isplitr; · ipureintro; exact (after_out m c t _ _).mpr rfl
    iexact H3

/-! ## The run -/

theorem hmain : Pipeline.HMainP (Ix := Unit) (Name := ℕ) (U := UR sig nD τ) (Lvl := ℕ) (pcfgs (F := F)) 0 defs₀ Variants.none m (main (F := F)) (V m) :=
  Pipeline.hmainP_region (pcfgs (F := F)) 0 defs₀ Variants.none m main fun c => by rw [main_chain]; rfl

set_option backward.isDefEq.respectTransparency.types false in
/-- Every run ends with the arrays where the proof data have them, everything else as it was, and the semaphores at zero. -/
theorem run_main : θ_run (defs (F := F)) (onTc (τ := τ) (main (F := F))) ⟨m, fun _ => 0, ρ⟩
    (fun r => RDat.FramePost (cfg0 (adm m 0)) (rdat m) (V m) r ∧ r.2.sem = fun _ => 0) :=
  RDat.θ_run_frameP (Q' := _) (pcfgs (F := F)) (adm m) 0 launch0 defs₀ Variants.none (rdat m) m ρ main
    (hbody := body_obligation m) (hshare := fun c w => by unfold RDat.share; split <;> rfl) (howed := fun _ _ => rfl)
    (V := V m) (hmain := hmain m) (hA := fun _ _ => rfl)
    (hpf := fun c k => by obtain rfl : c = 0 := Subsingleton.elim _ _; rfl) (hΦ := fun _ _ => rfl)

end Cert.KernelIdeal.Run

end
-- ==== Proof.Kept.lean ====
/-
  What every run of the kernel ends with: its arguments as they were, its counters at zero, and in each block of the output
  what the body leaves there.
-/
module

public import proofs.«01_k».proof.Proof.Run
public import Idealize.ShloMosaic.Lib.Pipeline.ArrRel
public import Idealize.ShloMosaic.Lib.Pipeline.Value

@[expose] public section

noncomputable section

namespace Cert.KernelIdeal.Run

open Cert.KernelIdeal Cert.KernelIdeal.Gen Cert.KernelIdeal.Body

open Idealize.ShloMosaic
open Idealize.ShloMosaic.TcCoe
open Idealize.SL.Sem
open Idealize.ShloMosaic.Pipeline (RDat Cfg Window)

variable {F : FTy → Type} [FloatOps F]

variable (m : (ℓ : Loc nD τ sig) → Buf (Elt F) ℓ) (ρ : Dev nD → PrngReg)

/-- The place in the output of element `y` of block `t`. -/
def place (t : Fin grid0.N) (y : S512x4096.Idx) : S8192x4096.Idx := ((win0 (adm m 0) 3).rect t).emb y

/-- What the run leaves of the buffers. -/
def Post (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = (fun _ => 0)
    ∧ ∀ (c : Dev nD) (t : Fin grid0.N), ∃ Y : Vec F S512x4096 .bf16, ∀ y : S512x4096.Idx,
        (r.2.mem ((c.tc : Thread nD τ).loc main_v0) : Vec F S8192x4096 .bf16) (place m t y)
          = blockVal (V m c main_arg2) (V m c main_arg3) (V m c main_arg1) (xblk m c t) (rowOf (grid0.coords t)) Y y

theorem flush_out (t : Fin grid0.N) : (win0 (adm m 0) 3).flush t = true := by
  fin_cases t <;> rfl

theorem index_out (t : Fin grid0.N) : (win0 (adm m 0) 3).index t = ![t.val, 0] := by
  fin_cases t <;> (funext a; fin_cases a <;> rfl)

theorem index_ne (t t' : Fin grid0.N) (h : t ≠ t') : (win0 (adm m 0) 3).index t ≠ (win0 (adm m 0) 3).index t' := by
  rw [index_out, index_out]
  exact fun e => h (Fin.ext (congrFun e 0))

theorem post_of (r : PUnit × MemSt nD τ sig (Elt F)) (h : RDat.FramePost (cfg0 (adm m 0)) (rdat m) (V m) r)
    (hs : r.2.sem = fun _ => 0) : Post m r := by
  refine ⟨fun c => ⟨?_, ?_, ?_, ?_⟩, hs, fun c t => ?_⟩
  · exact h.arr_in c 0 rfl
  · exact (h c).2 main_arg1 (Pipeline.mem_restRefs_of _ rfl (show ∀ w : Fin 4, (spec0 w).arr.view.ref ≠ main_arg1 by decide))
  · exact h.arr_in c 1 rfl
  · exact h.arr_in c 2 rfl
  · obtain ⟨after, hL, hA⟩ := h.exists_exact c
    obtain ⟨Y, -, hY⟩ := hL 3 t (flush_out m t)
    refine ⟨Y, fun y => ?_⟩
    have h3 := congrFun (hA 3) (((win0 (adm m 0) 3).blk t).view.emb y)
    refine Eq.trans h3 ((Pipeline.Dat.arrAt_emb_eq_flushed ((rdat m c).withAfter after) 3
      (fun t t' _ _ hn => Window.disjoint_blk _ (index_ne m t t' hn)) t (flush_out m t) y).trans ?_)
    exact congrFun ((after_out m c t Y _).mp hY) y

theorem run : θ_run (defs (F := F)) (onTc (τ := τ) (main (F := F))) ⟨m, fun _ => 0, ρ⟩ (Post m) :=
  (θ_run defs _ _).mono (fun r h => post_of m r h.1 h.2) (run_main m ρ)

/-- The frame. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨h.1, h.2.1⟩) (run m ρ)

end Cert.KernelIdeal.Run

end
-- ==== Proof.Frames.lean ====
/-
  The frame of the kernel as it runs on the device. Its program is that of the idealized kernel, word for word, so the run
  proved of the one is a run of the other.
-/
module

public import proofs.«01_k».proof.Defs
public import proofs.«01_k».proof.Proof.Gen.Kernel
public import proofs.«01_k».proof.Proof.Kept

@[expose] public section

noncomputable section

namespace Cert.Proof

open Idealize.ShloMosaic

set_option maxRecDepth 65536 in
theorem main_eq : @Cert.Kernel.main Bits _ Cert.Kernel.Gen.facts = @Cert.KernelIdeal.main Bits _ Cert.KernelIdeal.Gen.facts := rfl

set_option maxRecDepth 65536 in
theorem defs_eq : @Cert.Kernel.defs Bits _ Cert.Kernel.Gen.facts = @Cert.KernelIdeal.defs Bits _ Cert.KernelIdeal.Gen.facts := by chain_rfl

theorem kernel : @Cert.quiescent_Kernel Cert.Kernel.Gen.facts := fun m g _ => by
  rw [defs_eq, main_eq]
  exact Cert.KernelIdeal.Run.frame (F := Bits) m g

theorem kernelIdeal : @Cert.quiescent_KernelIdeal Cert.KernelIdeal.Gen.facts := fun m g _ => Cert.KernelIdeal.Run.frame m g

end Cert.Proof

end
-- ==== Proof.Words.lean ====
/-
  Signed 32-bit words that are small naturals: their comparisons are the naturals'.
-/
module

public import Idealize.ShloMosaic.PureOps

@[expose] public section

namespace Cert.Words

open Idealize.ShloMosaic

theorem toInt_small (a : ℕ) (h : a < 2 ^ 31) : (BitVec.ofNat 32 a).toInt = a := by
  rw [BitVec.toInt_eq_toNat_of_lt (by rw [BitVec.toNat_ofNat]; omega), BitVec.toNat_ofNat, Nat.mod_eq_of_lt (by omega)]

theorem slt_small (a b : ℕ) (ha : a < 2 ^ 31) (hb : b < 2 ^ 31) : (BitVec.ofNat 32 a).slt (BitVec.ofNat 32 b) = decide (a < b) := by
  unfold BitVec.slt
  rw [toInt_small a ha, toInt_small b hb]
  simp
theorem sle_small (a b : ℕ) (ha : a < 2 ^ 31) (hb : b < 2 ^ 31) : (BitVec.ofNat 32 a).sle (BitVec.ofNat 32 b) = decide (a ≤ b) := by
  unfold BitVec.sle
  rw [toInt_small a ha, toInt_small b hb]
  simp
theorem maxsi_small (a b : ℕ) (ha : a < 2 ^ 31) (hb : b < 2 ^ 31) :
    Scalar.maxsi (BitVec.ofNat 32 a) (BitVec.ofNat 32 b) = BitVec.ofNat 32 (max a b) := by
  simp only [Scalar.maxsi, IntOp.maxsi, slt_small _ _ ha hb, slt_small _ _ hb ha, sle_small _ _ ha hb, sle_small _ _ hb ha]
  by_cases h : a ≤ b
  · rw [max_eq_right h]
    by_cases h' : a = b
    · subst h'; simp
    · simp [show a < b by omega, show ¬ b < a by omega, show ¬ b ≤ a by omega]
  · rw [max_eq_left (by omega)]
    simp [show ¬ a < b by omega, show b < a by omega, show b ≤ a by omega]
theorem minsi_small (a b : ℕ) (ha : a < 2 ^ 31) (hb : b < 2 ^ 31) :
    Scalar.minsi (BitVec.ofNat 32 a) (BitVec.ofNat 32 b) = BitVec.ofNat 32 (min a b) := by
  simp only [Scalar.minsi, IntOp.minsi, slt_small _ _ ha hb, slt_small _ _ hb ha, sle_small _ _ ha hb, sle_small _ _ hb ha]
  by_cases h : a ≤ b
  · rw [min_eq_left h]
    by_cases h' : a = b
    · subst h'; simp
    · simp [show a < b by omega, show ¬ b < a by omega, show a ≤ b by omega]
  · rw [min_eq_right (by omega)]
    simp [show ¬ a < b by omega, show b < a by omega, show ¬ a ≤ b by omega]

theorem eq_small (a b : ℕ) (ha : a < 2 ^ 31) (hb : b < 2 ^ 31) : (BitVec.ofNat 32 a == BitVec.ofNat 32 b) = decide (a = b) := by
  by_cases h : a = b
  · subst h; simp
  · rw [decide_eq_false h, beq_eq_false_iff_ne]
    intro e
    have := congrArg BitVec.toInt e
    rw [toInt_small a ha, toInt_small b hb] at this
    omega

theorem ne_zero (a b : Bool) : Scalar.cmpi .ne (Scalar.extui (Scalar.andi (BitVec.ofBool a) (BitVec.ofBool b))) 0#32 = BitVec.ofBool (a && b) := by
  cases a <;> cases b <;> rfl

theorem ofBool_one (b : Bool) : BitVec.ofBool b = 1#1 ↔ b = true := by cases b <;> decide

theorem sge_small (a b : ℕ) (ha : a < 2 ^ 31) (hb : b < 2 ^ 31) :
    IntOp.cmpi .sge (BitVec.ofNat 32 a) (BitVec.ofNat 32 b) = BitVec.ofBool (decide (b ≤ a)) := by
  simp only [IntOp.cmpi]
  rw [sle_small b a hb ha]
theorem slt_cmpi (a b : ℕ) (ha : a < 2 ^ 31) (hb : b < 2 ^ 31) :
    IntOp.cmpi .slt (BitVec.ofNat 32 a) (BitVec.ofNat 32 b) = BitVec.ofBool (decide (a < b)) := by
  simp only [IntOp.cmpi]
  rw [slt_small a b ha hb]

theorem select_ofBool {α : Type} (p : Prop) [Decidable p] (a b : α) : Scalar.select (BitVec.ofBool (decide p)) a b = if p then a else b := by
  unfold Scalar.select
  by_cases h : p
  · rw [decide_eq_true h, if_pos h]; rfl
  · rw [decide_eq_false h, if_neg h]; rfl

theorem addi_small (a b : ℕ) : Scalar.addi (BitVec.ofNat 32 a) (BitVec.ofNat 32 b) = BitVec.ofNat 32 (a + b) := (BitVec.ofNat_add ..).symm

/-- The end of group `g`'s predecessor: the sum of the sizes before. -/
def cut (n : Fin 4 → ℕ) : Fin 5 → ℕ
  | 0 => 0 | 1 => n 0 | 2 => n 0 + n 1 | 3 => n 0 + n 1 + n 2 | 4 => n 0 + n 1 + n 2 + n 3

end Cert.Words
-- ==== Proof.Select.lean ====
/-
  What the kernel's body leaves in an entry of its output block, over the extended reals: the entry of the scaled product of
  the row's codes with the matrix of the row's group, whatever the block held before.
-/
module

public import proofs.«01_k».proof.Proof.Triple
public import proofs.«01_k».proof.Proof.Words
public import Idealize.ShloMosaic.Lib.Pointwise
public import Idealize.ShloMosaic.PureOps.Ideal.Laws

@[expose] public section

noncomputable section

namespace Cert.KernelIdeal.Body

open Cert.KernelIdeal Cert.KernelIdeal.Gen
open Idealize.ShloMosaic Cert.Words

variable (W : Vec Ideal S4x4096x768 .fp8e4m3) (S : Vec Ideal S4x4096 .f32)
  (v75 : FVec Ideal S512x1 .f32) (v87 : FVec Ideal S512x768 .fp8e5m2) (v90 : IVec S512x1 32) (lo : BitVec 32) (g : Fin 4)

/-- The scaled product's entry: row `i` of the block with column `j` of expert `g`. -/
def prodAt (i : Fin 512) (j : Fin 4096) : EReal :=
  (∑ k : Fin 768, (v87 (ix2 i k) : EReal) * W (ix3 g j k)) * v75 (ix2 i 0) * S (ix2 g j)

/-- A row's condition in a merging visit. -/
def keep (i : Fin 512) (a b : EReal) : EReal := Scalar.select (IntOp.cmpi .sge (v90 (ix2 i 0)) lo) a b

theorem keep_keep (i : Fin 512) (a b : EReal) : keep v90 lo i a (keep v90 lo i a b) = keep v90 lo i a b := by
  unfold keep Scalar.select; split <;> rfl

theorem ldW (n : Fin 8) (k : Fin 512) (x : Fin 768) (h : 512 * n.val + k.val < 4096) :
    View.ld W (rectW g n) (ix3 0 k x) = W (ix3 g ⟨512 * n.val + k.val, h⟩ x) := by
  show W _ = W _
  congr 1
  funext a
  apply Fin.ext
  fin_cases a <;> simp [LoadRect.idx, ix3]
theorem ldS (n : Fin 8) (k : Fin 512) (h : 512 * n.val + k.val < 4096) :
    View.ld S (rectS g n) (ix2 0 k) = S (ix2 g ⟨512 * n.val + k.val, h⟩) := by
  show S _ = S _
  congr 1
  funext a
  apply Fin.ext
  fin_cases a <;> simp [LoadRect.idx, ix2]
theorem ldO (Y : Vec Ideal S512x4096 .bf16) (n : Fin 8) (i k : Fin 512) (h : 512 * n.val + k.val < 4096) :
    View.ld Y (rectO n) (ix2 i k) = Y (ix2 i ⟨512 * n.val + k.val, h⟩) := by
  show Y _ = Y _
  congr 1
  funext a
  apply Fin.ext
  fin_cases a <;> simp [LoadRect.idx, ix2]

theorem payV_at (w : Vec Ideal S1x512x768 .fp8e4m3) (s : Vec Ideal S1x512 .f32) (i k : Fin 512) :
    payV v75 v87 w s (ix2 i k) = (∑ x : Fin 768, (v87 (ix2 i x) : EReal) * w (ix3 0 k x)) * v75 (ix2 i 0) * s (ix2 0 k) := by
  unfold payV prod
  pointwise

theorem payM_at (w : Vec Ideal S1x512x768 .fp8e4m3) (s : Vec Ideal S1x512 .f32) (old : Vec Ideal S512x512 .bf16) (i k : Fin 512) :
    payM v75 v87 v90 lo w s old (ix2 i k) = keep v90 lo i (payV v75 v87 w s (ix2 i k)) (old (ix2 i k)) := by
  rw [payV_at]
  unfold payM prod keep
  pointwise

theorem tileV (n : Fin 8) (i k : Fin 512) (h : 512 * n.val + k.val < 4096) :
    payV v75 v87 (View.ld W (rectW g n)) (View.ld S (rectS g n)) (ix2 i k) = prodAt W S v75 v87 g i ⟨512 * n.val + k.val, h⟩ := by
  rw [payV_at, ldS S g n k h]
  simp only [ldW W g n k _ h]
  rfl

/-- The column tile of a column. -/
def tile (j : Fin 4096) : Fin 8 := ⟨j.val / 512, by have := j.isLt; omega⟩

theorem put_at (n : Fin 8) (p : Vec Ideal S512x512 .bf16) (Y : Vec Ideal S512x4096 .bf16) (i : Fin 512) (j : Fin 4096) :
    put n p Y (ix2 i j) = if tile j = n then p (ix2 i ⟨j.val % 512, Nat.mod_lt _ (by norm_num)⟩) else Y (ix2 i j) := by
  unfold put
  have hi := i.isLt
  have hj := j.isLt
  by_cases hn : tile j = n
  · have hn' : j.val / 512 = n.val := congrArg Fin.val hn
    rw [if_pos hn, dif_pos (by
      intro a
      fin_cases a
      · exact ⟨Nat.zero_le _, by simpa [S512x512, ix2] using hi⟩
      · simp [S512x512, ix2]; omega)]
    congr 1
    funext a
    apply Fin.ext
    fin_cases a
    · rfl
    · show j.val - 512 * n.val = j.val % 512
      omega
  · rw [if_neg hn, dif_neg (by
      intro h
      have h1 := h 1
      simp [S512x512, ix2] at h1
      exact hn (Fin.ext (by show j.val / 512 = n.val; omega)))]

theorem tile_add (n : Fin 8) (j : Fin 4096) (h : tile j = n) : ∃ h' : 512 * n.val + j.val % 512 < 4096, (⟨512 * n.val + j.val % 512, h'⟩ : Fin 4096) = j := by
  have hn' : j.val / 512 = n.val := congrArg Fin.val h
  have e : 512 * n.val + j.val % 512 = j.val := by omega
  exact ⟨by rw [e]; exact j.isLt, Fin.ext e⟩

theorem visitVal_at (l : List (Fin 8)) (Y : Vec Ideal S512x4096 .bf16) (i : Fin 512) (j : Fin 4096) :
    visitVal W S v75 v87 g l Y (ix2 i j) = if tile j ∈ l then prodAt W S v75 v87 g i j else Y (ix2 i j) := by
  induction l generalizing Y with
  | nil => simp [visitVal]
  | cons n l ih =>
    rw [visitVal, ih, put_at]
    by_cases hl : tile j ∈ l
    · rw [if_pos hl, if_pos (List.mem_cons_of_mem _ hl)]
    · rw [if_neg hl]
      by_cases hn : tile j = n
      · obtain ⟨h', e⟩ := tile_add n j hn
        rw [if_pos hn, if_pos (by simp [hn]), tileV W S v75 v87 g n i ⟨j.val % 512, Nat.mod_lt _ (by norm_num)⟩ h']
        exact congrArg _ e
      · rw [if_neg hn, if_neg (by simp [hn, hl])]

theorem mergeVal_at (l : List (Fin 8)) (Y : Vec Ideal S512x4096 .bf16) (i : Fin 512) (j : Fin 4096) :
    mergeVal W S v75 v87 v90 lo g l Y (ix2 i j)
      = if tile j ∈ l then keep v90 lo i (prodAt W S v75 v87 g i j) (Y (ix2 i j)) else Y (ix2 i j) := by
  induction l generalizing Y with
  | nil => simp [mergeVal]
  | cons n l ih =>
    rw [mergeVal, ih, put_at]
    by_cases hn : tile j = n
    · obtain ⟨h', e⟩ := tile_add n j hn
      have hp : payM v75 v87 v90 lo (View.ld W (rectW g n)) (View.ld S (rectS g n)) (View.ld Y (rectO n))
          (ix2 i ⟨j.val % 512, Nat.mod_lt _ (by norm_num)⟩) = keep v90 lo i (prodAt W S v75 v87 g i j) (Y (ix2 i j)) := by
        rw [payM_at, tileV W S v75 v87 g n i ⟨j.val % 512, Nat.mod_lt _ (by norm_num)⟩ h', ldO Y n i _ h']
        show keep v90 lo i (prodAt W S v75 v87 g i ⟨512 * n.val + j.val % 512, h'⟩) (Y (ix2 i ⟨512 * n.val + j.val % 512, h'⟩)) = _
        rw [e]
      rw [if_pos hn, if_pos (by simp [hn] : tile j ∈ n :: l), hp]
      split
      · exact keep_keep v90 lo i _ _
      · rfl
    · rw [if_neg hn]
      by_cases hl : tile j ∈ l
      · rw [if_pos hl, if_pos (List.mem_cons_of_mem _ hl)]
      · rw [if_neg hl, if_neg (by simp [hn, hl])]

theorem mem_tiles (n : Fin 8) : n ∈ tiles := by revert n; decide

theorem visit_all (Y : Vec Ideal S512x4096 .bf16) (i : Fin 512) (j : Fin 4096) :
    visitVal W S v75 v87 g tiles Y (ix2 i j) = prodAt W S v75 v87 g i j := by
  rw [visitVal_at, if_pos (mem_tiles _)]
theorem merge_all (Y : Vec Ideal S512x4096 .bf16) (i : Fin 512) (j : Fin 4096) :
    mergeVal W S v75 v87 v90 lo g tiles Y (ix2 i j) = keep v90 lo i (prodAt W S v75 v87 g i j) (Y (ix2 i j)) := by
  rw [mergeVal_at, if_pos (mem_tiles _)]

/-! ## An expert's conditions -/

theorem loOf_small (r s : ℕ) (hr : r ≤ 8192) (hs : s ≤ 8192) : loOf (BitVec.ofNat 32 r) (BitVec.ofNat 32 s) = BitVec.ofNat 32 (max s r) :=
  maxsi_small s r (by omega) (by omega)

theorem hi_small (r e : ℕ) (hr : r ≤ 8192) (he : e ≤ 8192) :
    Scalar.minsi (BitVec.ofNat 32 e) (Scalar.addi (BitVec.ofNat 32 r) 512#32) = BitVec.ofNat 32 (min e (r + 512)) := by
  rw [show Scalar.addi (BitVec.ofNat 32 r) 512#32 = BitVec.ofNat 32 (r + 512) from (BitVec.ofNat_add r 512).symm]
  exact minsi_small e (r + 512) (by omega) (by omega)

theorem condV_iff (r s e : ℕ) (hr : r ≤ 8192) (hs : s ≤ 8192) (he : e ≤ 8192) :
    condV (BitVec.ofNat 32 r) (BitVec.ofNat 32 s) (BitVec.ofNat 32 e) = 1#1 ↔ max s r < min e (r + 512) ∧ max s r = r := by
  unfold condV
  rw [loOf_small r s hr hs, hi_small r e hr he]
  simp only [Scalar.cmpi, IntOp.cmpi]
  rw [slt_small _ _ (by omega) (by omega), eq_small _ _ (by omega) (by omega)]
  rw [show ∀ a b, BitVec.ofBool (Scalar.extui (Scalar.andi (BitVec.ofBool a) (BitVec.ofBool b)) != 0#32) = BitVec.ofBool (a && b) from ne_zero]
  rw [ofBool_one]
  simp

theorem condM_iff (r s e : ℕ) (hr : r ≤ 8192) (hs : s ≤ 8192) (he : e ≤ 8192) :
    condM (BitVec.ofNat 32 r) (BitVec.ofNat 32 s) (BitVec.ofNat 32 e) = 1#1 ↔ max s r < min e (r + 512) ∧ r < max s r := by
  unfold condM
  rw [loOf_small r s hr hs, hi_small r e hr he]
  simp only [Scalar.cmpi, IntOp.cmpi]
  rw [slt_small _ _ (by omega) (by omega), slt_small _ _ (by omega) (by omega)]
  rw [show ∀ a b, BitVec.ofBool (Scalar.extui (Scalar.andi (BitVec.ofBool a) (BitVec.ofBool b)) != 0#32) = BitVec.ofBool (a && b) from ne_zero]
  rw [ofBool_one]
  simp

theorem rowsOf_at (r : ℕ) (i : Fin 512) : rowsOf (BitVec.ofNat 32 r) (ix2 i 0) = BitVec.ofNat 32 (r + i.val) := by
  rw [BitVec.ofNat_add]
  unfold rowsOf
  pointwise
  rfl

theorem keep_rows (r lo : ℕ) (hr : r ≤ 8192) (hlo : lo ≤ 8192) (i : Fin 512) (a b : EReal) :
    keep (rowsOf (BitVec.ofNat 32 r)) (BitVec.ofNat 32 lo) i a b = if lo ≤ r + i.val then a else b := by
  unfold keep
  rw [rowsOf_at, sge_small _ _ (by omega) (by omega)]
  exact select_ofBool _ _ _

/-! ## An expert, and all of them -/

/-- An expert leaves the rows before its group. -/
theorem expert_before (r s e : ℕ) (hr : r ≤ 8192) (hs : s ≤ 8192) (he : e ≤ 8192) (Y : Vec Ideal S512x4096 .bf16)
    (i : Fin 512) (j : Fin 4096) (h : r + i.val < s) :
    expertVal W S v75 v87 (rowsOf (BitVec.ofNat 32 r)) (BitVec.ofNat 32 r) g (BitVec.ofNat 32 s) (BitVec.ofNat 32 e) Y (ix2 i j)
      = Y (ix2 i j) := by
  have hV : ¬ condV (BitVec.ofNat 32 r) (BitVec.ofNat 32 s) (BitVec.ofNat 32 e) = 1#1 := by
    rw [condV_iff r s e hr hs he]; omega
  unfold expertVal
  rw [loOf_small r s hr hs, if_neg hV]
  split
  · rw [merge_all, keep_rows r (max s r) hr (by omega), if_neg (by omega)]
  · rfl

/-- An expert leaves its product in its group's rows. -/
theorem expert_in (r s e : ℕ) (hr : r ≤ 8192) (hs : s ≤ 8192) (he : e ≤ 8192) (Y : Vec Ideal S512x4096 .bf16)
    (i : Fin 512) (j : Fin 4096) (h1 : s ≤ r + i.val) (h2 : r + i.val < e) :
    expertVal W S v75 v87 (rowsOf (BitVec.ofNat 32 r)) (BitVec.ofNat 32 r) g (BitVec.ofNat 32 s) (BitVec.ofNat 32 e) Y (ix2 i j)
      = prodAt W S v75 v87 g i j := by
  have hi := i.isLt
  have hV := condV_iff r s e hr hs he
  have hM := condM_iff r s e hr hs he
  unfold expertVal
  rw [loOf_small r s hr hs]
  by_cases hsr : s ≤ r
  · rw [if_neg (fun h => by have := hM.mp h; omega), if_pos (hV.mpr (by omega)), visit_all]
  · rw [if_pos (hM.mpr (by omega)), merge_all, keep_rows r (max s r) hr (by omega), if_pos (by omega)]

theorem word_at (T : Vec Ideal S4 .i32) (k : Fin 4) (h : ∀ a, (![k.val] : Fin 1 → Nat) a + S1.size a ≤ S4.size a) : word T k.val h = T (ix1 k) := by
  unfold word
  show T _ = T _
  congr 1
  funext a
  apply Fin.ext
  fin_cases a
  show k.val + 1 * _ = k.val
  have : ∀ x : Fin 1, k.val + 1 * x.val = k.val := fun x => by omega
  exact this _

/-- The block after the body: an entry of the product of the row's group. -/
theorem block_at (T : Vec Ideal S4 .i32) (n : Fin 4 → ℕ) (hT : ∀ k, T (ix1 k) = BitVec.ofNat 32 (n k)) (hn : cut n 4 = 8192)
    (x : Vec Ideal S512x768 .bf16) (r : ℕ) (Y : Vec Ideal S512x4096 .bf16) (hr : r ≤ 8192)
    (i : Fin 512) (j : Fin 4096) (h1 : cut n g.castSucc ≤ r + i.val) (h2 : r + i.val < cut n g.succ) :
    blockVal W S T x (BitVec.ofNat 32 r) Y (ix2 i j) = prodAt W S (scaleOf x) (codesOf x) g i j := by
  have e0 : end0 T = BitVec.ofNat 32 (n 0) := by
    unfold end0; rw [show word T 0 inb_S4_S1_0 = T (ix1 0) from word_at T 0 _, hT]; exact BitVec.zero_add _
  have e1 : end1 T = BitVec.ofNat 32 (n 0 + n 1) := by
    unfold end1; rw [e0, show word T 1 inb_S4_S1_1 = T (ix1 1) from word_at T 1 _, hT]; exact (BitVec.ofNat_add ..).symm
  have e2 : end2 T = BitVec.ofNat 32 (n 0 + n 1 + n 2) := by
    unfold end2; rw [e1, show word T 2 inb_S4_S1_2 = T (ix1 2) from word_at T 2 _, hT]; exact (BitVec.ofNat_add ..).symm
  have e3 : end3 T = BitVec.ofNat 32 (n 0 + n 1 + n 2 + n 3) := by
    unfold end3; rw [e2, show word T 3 inb_S4_S1_3 = T (ix1 3) from word_at T 3 _, hT]; exact (BitVec.ofNat_add ..).symm
  have hn' : n 0 + n 1 + n 2 + n 3 = 8192 := hn
  unfold blockVal
  rw [e0, e1, e2, e3]
  rw [show (0#32 : BitVec 32) = BitVec.ofNat 32 0 from rfl]
  fin_cases g
  · change 0 ≤ _ at h1; change _ < n 0 at h2
    rw [expert_before _ _ _ _ _ _ _ _ hr (by omega) (by omega) _ _ _ (by omega),
      expert_before _ _ _ _ _ _ _ _ hr (by omega) (by omega) _ _ _ (by omega),
      expert_before _ _ _ _ _ _ _ _ hr (by omega) (by omega) _ _ _ (by omega),
      expert_in _ _ _ _ _ _ _ _ hr (by omega) (by omega) _ _ _ (by omega) (by omega)]
    rfl
  · change n 0 ≤ _ at h1; change _ < n 0 + n 1 at h2
    rw [expert_before _ _ _ _ _ _ _ _ hr (by omega) (by omega) _ _ _ (by omega),
      expert_before _ _ _ _ _ _ _ _ hr (by omega) (by omega) _ _ _ (by omega),
      expert_in _ _ _ _ _ _ _ _ hr (by omega) (by omega) _ _ _ (by omega) (by omega)]
    rfl
  · change n 0 + n 1 ≤ _ at h1; change _ < n 0 + n 1 + n 2 at h2
    rw [expert_before _ _ _ _ _ _ _ _ hr (by omega) (by omega) _ _ _ (by omega),
      expert_in _ _ _ _ _ _ _ _ hr (by omega) (by omega) _ _ _ (by omega) (by omega)]
    rfl
  · change n 0 + n 1 + n 2 ≤ _ at h1; change _ < n 0 + n 1 + n 2 + n 3 at h2
    rw [expert_in _ _ _ _ _ _ _ _ hr (by omega) (by omega) _ _ _ (by omega) (by omega)]
    rfl

end Cert.KernelIdeal.Body

end
-- ==== Proof.Quant.lean ====
/-
  The quantiser's scale, entry by entry over the extended reals: the exponent found by the kernel's search of powers of two is
  the reference's least exponent, and the numbers the kernel builds from it are the powers of two the reference takes.
-/
module

public import Idealize.ShloMosaic.Lib.Pointwise
public import Idealize.ShloMosaic.PureOps.Ideal.Laws

@[expose] public section

noncomputable section

namespace Cert.Quant

open Idealize.ShloMosaic

/-- The number whose exponent field is the word `b`, its other bits zero. -/
def num (b : BitVec 32) : EReal := Ideal.ofBits .f32 (IntOp.shli ArithUnit.vector b 23#32)

theorem bits (b : Fin 256) : ((IntOp.shli ArithUnit.vector (BitVec.ofNat 32 b.val) 23#32).extractLsb' 31 1 = 0#1)
    ∧ ((IntOp.shli ArithUnit.vector (BitVec.ofNat 32 b.val) 23#32).extractLsb' 23 8).toNat = b.val
    ∧ ((IntOp.shli ArithUnit.vector (BitVec.ofNat 32 b.val) 23#32).extractLsb' 0 23).toNat = 0 := by
  revert b; decide +kernel

theorem num_pow (b : ℕ) (h1 : 1 ≤ b) (h2 : b ≤ 254) : num (BitVec.ofNat 32 b) = (((2 : ℝ) ^ ((b : ℤ) - 127) : ℝ) : EReal) := by
  obtain ⟨hs, he, hf⟩ := bits ⟨b, by omega⟩
  simp only at hs he hf
  unfold num
  show Ideal.ieee 8 23 (IntOp.shli ArithUnit.vector (BitVec.ofNat 32 b) 23#32) = _
  unfold Ideal.ieee
  simp only [he, hf, hs]
  rw [if_neg (by norm_num; omega), if_neg (by omega)]
  refine congrArg _ ?_
  rw [if_neg (by decide), one_mul, show ((2 ^ 23 + 0 : ℕ) : ℝ) = (2 : ℝ) ^ (23 : ℤ) by norm_num,
    ← zpow_add₀ (by norm_num)]
  refine congrArg _ ?_
  norm_num

theorem num_top : num (BitVec.ofNat 32 255) = ⊤ := by
  obtain ⟨hs, he, hf⟩ := bits ⟨255, by omega⟩
  simp only at hs he hf
  unfold num
  show Ideal.ieee 8 23 (IntOp.shli ArithUnit.vector (BitVec.ofNat 32 255) 23#32) = _
  unfold Ideal.ieee
  simp only [he, hf, hs]
  rw [if_pos (by norm_num), if_pos trivial, if_neg (by decide)]

/-! ## The search -/

/-- One step of the search, and the search. -/
def step (t : EReal) (d b : BitVec 32) : BitVec 32 := if t < num (IntOp.addi b d) then b else IntOp.addi b d
def field (t : EReal) : BitVec 32 :=
  step t 1#32 <| step t 2#32 <| step t 4#32 <| step t 8#32 <| step t 16#32 <| step t 32#32 <| step t 64#32 <| step t 128#32 0#32

/-- What the search keeps: the field lies between `b` and `b + d`. -/
def Between (t : EReal) (d : ℕ) (w : BitVec 32) : Prop :=
  ∃ b : ℕ, w = BitVec.ofNat 32 b ∧ b + d ≤ 256 ∧ (b = 0 ∨ num (BitVec.ofNat 32 b) ≤ t) ∧ (b + d = 256 ∨ t < num (BitVec.ofNat 32 (b + d)))

theorem step_between (t : EReal) (d : ℕ) (w : BitVec 32) (h : Between t (2 * d) w) : Between t d (step t (BitVec.ofNat 32 d) w) := by
  obtain ⟨b, rfl, hle, hlo, hhi⟩ := h
  have ha : IntOp.addi (BitVec.ofNat 32 b) (BitVec.ofNat 32 d) = BitVec.ofNat 32 (b + d) := (BitVec.ofNat_add b d).symm
  unfold step
  rw [ha]
  by_cases hc : t < num (BitVec.ofNat 32 (b + d))
  · rw [if_pos hc]
    exact ⟨b, rfl, by omega, hlo, .inr hc⟩
  · rw [if_neg hc]
    refine ⟨b + d, rfl, by omega, .inr (not_lt.mp hc), ?_⟩
    rwa [show b + d + d = b + 2 * d by omega]

theorem field_spec (t : EReal) (h : t < ((2 ^ 126 : ℝ) : EReal)) :
    ∃ b : ℕ, field t = BitVec.ofNat 32 b ∧ b ≤ 252 ∧ (b = 0 ∨ (((2 : ℝ) ^ ((b : ℤ) - 127) : ℝ) : EReal) ≤ t)
      ∧ t < (((2 : ℝ) ^ ((b : ℤ) - 126) : ℝ) : EReal) := by
  have h0 : Between t (2 * 128) 0#32 := ⟨0, rfl, by omega, .inl rfl, .inl rfl⟩
  obtain ⟨b, hb, hle, hlo, hhi⟩ := step_between t 1 _ (step_between t 2 _ (step_between t 4 _ (step_between t 8 _
    (step_between t 16 _ (step_between t 32 _ (step_between t 64 _ (step_between t 128 _ h0)))))))
  have hb3 : b ≤ 252 := by
    by_contra hc
    have h1 : num (BitVec.ofNat 32 b) ≤ t := by
      rcases hlo with h | h
      · omega
      · exact h
    have h2 := h1.trans_lt h
    by_cases h255 : b = 255
    · rw [h255, num_top] at h2; exact absurd h2 not_top_lt
    · rw [num_pow b (by omega) (by omega), EReal.coe_lt_coe_iff, ← zpow_natCast (2 : ℝ) 126,
        zpow_lt_zpow_iff_right₀ (by norm_num)] at h2
      omega
  refine ⟨b, hb, hb3, ?_, ?_⟩
  · rcases hlo with h | h
    · exact .inl h
    · by_cases h0 : b = 0
      · exact .inl h0
      · rw [num_pow b (by omega) (by omega)] at h; exact .inr h
  · rcases hhi with h | h
    · omega
    · rw [num_pow (b + 1) (by omega) (by omega)] at h
      rwa [show ((b + 1 : ℕ) : ℤ) - 127 = (b : ℤ) - 126 by push_cast; ring] at h

/-! ## The kernel's exponent and numbers -/

/-- The kernel's exponent. -/
def kexp (t : EReal) : BitVec 32 :=
  Scalar.select (IntOp.cmpi .eq (field t) 0#32) 0#32 (IntOp.subi (field t) 126#32)

/-- The exponent as an integer. -/
theorem kexp_spec (t : EReal) (h : t < ((2 ^ 126 : ℝ) : EReal)) :
    ∃ e : ℤ, kexp t = BitVec.ofInt 32 e ∧ -125 ≤ e ∧ e ≤ 126
      ∧ ((e = 0 ∧ t < (((2 : ℝ) ^ (-126 : ℤ) : ℝ) : EReal))
        ∨ ((((2 : ℝ) ^ (e - 1) : ℝ) : EReal) ≤ t ∧ t < (((2 : ℝ) ^ e : ℝ) : EReal))) := by
  obtain ⟨b, hb, hle, hlo, hhi⟩ := field_spec t h
  unfold kexp
  rw [hb]
  by_cases h0 : b = 0
  · subst h0
    exact ⟨0, rfl, by omega, by omega, .inl ⟨rfl, by simpa using hhi⟩⟩
  · refine ⟨(b : ℤ) - 126, ?_, by omega, by omega, .inr ⟨?_, hhi⟩⟩
    · have hne : IntOp.cmpi .eq (BitVec.ofNat 32 b) 0#32 = 0#1 := by
        have : BitVec.ofNat 32 b ≠ 0#32 := fun hc => h0 (by
          have := congrArg BitVec.toNat hc
          simp at this; omega)
        show BitVec.ofBool (BitVec.ofNat 32 b == 0#32) = 0#1
        rw [beq_eq_false_iff_ne.mpr this]; rfl
      rw [hne]
      show BitVec.ofNat 32 b - 126#32 = _
      rw [← BitVec.ofInt_natCast, sub_eq_add_neg, BitVec.ofInt_add]
      exact BitVec.sub_eq_add_neg ..
    · rcases hlo with h | h
      · exact absurd h h0
      · rwa [show (b : ℤ) - 126 - 1 = (b : ℤ) - 127 by ring]

theorem num_int (n : ℤ) (h1 : 1 ≤ n) (h2 : n ≤ 254) : num (BitVec.ofInt 32 n) = (((2 : ℝ) ^ (n - 127) : ℝ) : EReal) := by
  obtain ⟨b, rfl⟩ := Int.eq_ofNat_of_zero_le (by omega : 0 ≤ n)
  rw [BitVec.ofInt_natCast]
  exact num_pow b (by omega) (by omega)

/-! ## The reference's exponent -/

/-- The candidate exponents, and the least that bounds `t`. -/
def cand (k : Fin 254) : EReal := (((BitVec.ofNat 32 k.val - 125#32).toInt : ℝ) : EReal)
def rexp (t : EReal) : EReal :=
  if t < Ideal.ofBits .f32 0x00800000#32 then 0
  else Finset.univ.fold min (Ideal.ofBits .f32 0x7F800000#32) fun k : Fin 254 =>
    if t < Ideal.exp2 (cand k) then cand k else Ideal.ofBits .f32 0x43000000#32

theorem cand_eq (k : Fin 254) : cand k = ((((k.val : ℤ) - 125 : ℤ) : ℝ) : EReal) := by
  unfold cand
  have : ∀ k : Fin 254, (BitVec.ofNat 32 k.val - 125#32).toInt = (k.val : ℤ) - 125 := by decide +kernel
  rw [this]

theorem exp2_int (n : ℤ) : Ideal.exp2 (((n : ℤ) : ℝ) : EReal) = (((2 : ℝ) ^ n : ℝ) : EReal) := by
  rw [Ideal.exp2_coe]
  congr 1
  exact Real.rpow_intCast 2 n

theorem tiny : Ideal.ofBits .f32 0x00800000#32 = (((2 : ℝ) ^ (-126 : ℤ) : ℝ) : EReal) := num_pow 1 (by omega) (by omega)
theorem inf : Ideal.ofBits .f32 0x7F800000#32 = ⊤ := num_top
theorem n128 : Ideal.ofBits .f32 0x43000000#32 = ((128 : ℝ) : EReal) := by
  rw [show Ideal.ofBits .f32 0x43000000#32 = num (BitVec.ofNat 32 134) from rfl, num_pow 134 (by omega) (by omega)]
  norm_num

/-- The reference's exponent is the kernel's. -/
theorem rexp_eq (t : EReal) (e : ℤ) (h1 : -125 ≤ e) (h2 : e ≤ 126)
    (h : (e = 0 ∧ t < (((2 : ℝ) ^ (-126 : ℤ) : ℝ) : EReal))
        ∨ ((((2 : ℝ) ^ (e - 1) : ℝ) : EReal) ≤ t ∧ t < (((2 : ℝ) ^ e : ℝ) : EReal))) : rexp t = (((e : ℤ) : ℝ) : EReal) := by
  unfold rexp
  rw [tiny, inf, n128]
  rcases h with ⟨rfl, h⟩ | ⟨hlo, hhi⟩
  · rw [if_pos h]; simp
  · rw [if_neg (not_lt.mpr (le_trans (EReal.coe_le_coe_iff.mpr (zpow_le_zpow_right₀ (by norm_num) (by omega))) hlo))]
    apply le_antisymm
    · have hk : ∃ k : Fin 254, (k.val : ℤ) - 125 = e := ⟨⟨(e + 125).toNat, by omega⟩, by simp only; omega⟩
      obtain ⟨k, hk⟩ := hk
      refine ((Finset.fold_min_le _).mpr (.inr ⟨k, Finset.mem_univ k, ?_⟩))
      rw [cand_eq, hk, exp2_int, if_pos hhi]
    · refine (Finset.le_fold_min _).mpr ⟨le_top, fun k _ => ?_⟩
      rw [cand_eq, exp2_int]
      split
      · rename_i hc
        have := hlo.trans_lt hc
        rw [EReal.coe_lt_coe_iff, zpow_lt_zpow_iff_right₀ (by norm_num)] at this
        rw [EReal.coe_le_coe_iff, Int.cast_le]
        omega
      · rw [EReal.coe_le_coe_iff]
        exact_mod_cast (by omega : e ≤ 128)

/-! ## The scales agree -/

/-- The kernel's scale and inverse scale. -/
def kscale (t : EReal) : EReal := num (IntOp.addi (kexp t) 127#32)
def kinv (t : EReal) : EReal := num (IntOp.subi 127#32 (kexp t))

theorem scale_eq (t : EReal) (h : t < ((2 ^ 126 : ℝ) : EReal)) : kscale t = Ideal.exp2 (rexp t) := by
  obtain ⟨e, he, h1, h2, hs⟩ := kexp_spec t h
  rw [rexp_eq t e h1 h2 hs, exp2_int]
  unfold kscale
  rw [he, show IntOp.addi (BitVec.ofInt 32 e) 127#32 = BitVec.ofInt 32 (e + 127) from (BitVec.ofInt_add e 127).symm,
    num_int _ (by omega) (by omega)]
  congr 2; ring

theorem inv_eq (t : EReal) (h : t < ((2 ^ 126 : ℝ) : EReal)) :
    kinv t = Ideal.exp2 (0 - rexp t) := by
  obtain ⟨e, he, h1, h2, hs⟩ := kexp_spec t h
  rw [rexp_eq t e h1 h2 hs, show (0 : EReal) - (((e : ℤ) : ℝ) : EReal) = ((((-e : ℤ)) : ℝ) : EReal) by
    rw [zero_sub, ← EReal.coe_neg, Int.cast_neg], exp2_int]
  unfold kinv
  rw [he, show IntOp.subi 127#32 (BitVec.ofInt 32 e) = BitVec.ofInt 32 (127 - e) by
    rw [sub_eq_add_neg, BitVec.ofInt_add, BitVec.ofInt_neg]
    exact BitVec.sub_eq_add_neg ..,
    num_int _ (by omega) (by omega)]
  congr 2; ring

/-! ## Vectors at an index -/

section
variable {s : Shape}
theorem exp2_at (v : FVec Ideal s .f32) (i : s.Idx) : exp2 v i = Ideal.exp2 (v i) := rfl
theorem mulf_at (a b : FVec Ideal s .f32) (i : s.Idx) : mulf a b i = (a i * b i : EReal) := rfl
theorem absf_at (v : FVec Ideal s .f32) (i : s.Idx) : absf v i = max (v i : EReal) (-(v i : EReal)) := rfl
theorem extf_at (v : FVec Ideal s .bf16) (h) (i : s.Idx) : extf .f32 v h i = (v i : EReal) := rfl
end

/-- The scaled maximum of a row; a row's code from the row's entry and factor. -/
def rowT {n : ℕ} (x : (⟨2, ![n, 768]⟩ : Shape).Idx → EReal) (i : Fin n) : EReal :=
  Finset.univ.fold max (Ideal.ofBits .f32 0xFF800000#32) (fun k : Fin 768 => max (x (ix2 i k)) (-(x (ix2 i k))))
    * Ideal.ofBits .f32 0x37924925#32
def code (a f : EReal) : EReal := min (Ideal.ofBits .f32 0x47600000#32) (max (Ideal.ofBits .f32 0xC7600000#32) (a * f))

theorem negInf : Ideal.ofBits .f32 0xFF800000#32 = ⊥ := by
  show Ideal.ieee 8 23 0xFF800000#32 = _
  unfold Ideal.ieee
  rw [show ((0xFF800000#32).extractLsb' 23 8).toNat = 255 by decide, show ((0xFF800000#32).extractLsb' 0 23).toNat = 0 by decide,
    show ((0xFF800000#32).extractLsb' (8 + 23) 1 == 1#1) = true by decide]
  rw [if_pos (by norm_num), if_pos rfl, if_pos rfl]

theorem bound : Ideal.ofBits .f32 0x7F7F0000#32 = ((2 ^ 128 - 2 ^ 120 : ℝ) : EReal) := by
  show Ideal.ieee 8 23 0x7F7F0000#32 = _
  unfold Ideal.ieee
  rw [show ((0x7F7F0000#32).extractLsb' 23 8).toNat = 254 by decide, show ((0x7F7F0000#32).extractLsb' 0 23).toNat = 8323072 by decide,
    show ((0x7F7F0000#32).extractLsb' (8 + 23) 1 == 1#1) = false by decide]
  simp only []
  rw [if_neg (by norm_num), if_neg (by norm_num)]
  refine congrArg _ ?_
  rw [if_neg (by decide)]
  norm_num

theorem factor : Ideal.ofBits .f32 0x37924925#32 = ((9586981 / 2 ^ 39 : ℝ) : EReal) := by
  show Ideal.ieee 8 23 0x37924925#32 = _
  unfold Ideal.ieee
  rw [show ((0x37924925#32).extractLsb' 23 8).toNat = 111 by decide, show ((0x37924925#32).extractLsb' 0 23).toNat = 1198373 by decide,
    show ((0x37924925#32).extractLsb' (8 + 23) 1 == 1#1) = false by decide]
  simp only []
  rw [if_neg (by norm_num), if_neg (by norm_num)]
  refine congrArg _ ?_
  rw [if_neg (by decide)]
  norm_num

/-- A row of bounded entries has a scaled maximum below `2^126`. -/
theorem rowT_lt {n : ℕ} (x : (⟨2, ![n, 768]⟩ : Shape).Idx → EReal) (i : Fin n)
    (h : ∀ k, max (x (ix2 i k)) (-(x (ix2 i k))) ≤ Ideal.ofBits .f32 0x7F7F0000#32) : rowT x i < ((2 ^ 126 : ℝ) : EReal) := by
  unfold rowT
  have hm : Finset.univ.fold max (Ideal.ofBits .f32 0xFF800000#32) (fun k : Fin 768 => max (x (ix2 i k)) (-(x (ix2 i k))))
      ≤ ((2 ^ 128 - 2 ^ 120 : ℝ) : EReal) := by
    refine (Finset.fold_max_le _).mpr ⟨?_, fun k _ => (h k).trans_eq bound⟩
    rw [show Ideal.ofBits .f32 0xFF800000#32 = ⊥ from negInf]
    exact bot_le
  rw [factor]
  refine (mul_le_mul_of_nonneg_right hm (EReal.coe_nonneg.mpr (by norm_num))).trans_lt ?_
  rw [← EReal.coe_mul, EReal.coe_lt_coe_iff]
  norm_num

end Cert.Quant

end
-- ==== Proof.KerQuant.lean ====
/-
  The kernel's quantiser, entry by entry over the extended reals.
-/
module

public import proofs.«01_k».proof.Proof.Select
public import proofs.«01_k».proof.Proof.Quant

@[expose] public section

noncomputable section

namespace Cert.KernelIdeal.Body

open Cert.KernelIdeal Cert.KernelIdeal.Gen
open Idealize.ShloMosaic Cert.Quant

/-- The rows' maxima. -/
def rowMax (v : FVec Ideal S512x768 .f32) : FVec Ideal S512x1 .f32 :=
  shapeCast S512x1 (multiReduction .maximumf [1] S512 v 0xFF800000#32 reduces_S512x768_S512 (.inl rfl) rfl) shapeCasts_S512_S512x1

theorem rowMax_at (v : FVec Ideal S512x768 .f32) (i : Fin 512) :
    rowMax v (ix2 i 0) = Finset.univ.fold max (Ideal.ofBits .f32 0xFF800000#32) (fun k : Fin 768 => (v (ix2 i k) : EReal)) := by
  unfold rowMax
  pointwise

theorem tOf_at (x : Vec Ideal S512x768 .bf16) (i : Fin 512) : tOf x (ix2 i 0) = rowT x i := by
  rw [show tOf x = mulf (rowMax (absf (extf .f32 x bitsLt_bf16_f32))) (broadcast S512x1 (Scalar.ofBits .f32 0x37924925#32)) from rfl,
    mulf_at, rowMax_at]
  simp only [absf_at, extf_at]
  rfl

theorem stepE_at (t : FVec Ideal S512x1 .f32) (d : BitVec 32) (b : IVec S512x1 32) (i : Fin 512) :
    stepE t d b (ix2 i 0) = step (t (ix2 i 0)) d (b (ix2 i 0)) := by
  unfold stepE step num
  pointwise

theorem fieldE_at (t : FVec Ideal S512x1 .f32) (i : Fin 512) : fieldE t (ix2 i 0) = field (t (ix2 i 0)) := by
  unfold fieldE field
  simp only [stepE_at]
  rfl

theorem expE_at (t : FVec Ideal S512x1 .f32) (i : Fin 512) : expE t (ix2 i 0) = kexp (t (ix2 i 0)) := by
  unfold kexp
  rw [← fieldE_at]
  unfold expE
  pointwise

/-- The number with the exponent field `v`, as a vector. -/
def numV (v : IVec S512x1 32) : FVec Ideal S512x1 .f32 := bitcastToFloat .f32 (shli v (broadcast S512x1 23#32))
theorem numV_at (v : IVec S512x1 32) (i : Fin 512) : numV v (ix2 i 0) = num (v (ix2 i 0)) := by
  unfold numV num
  pointwise

theorem scaleOf_at (x : Vec Ideal S512x768 .bf16) (i : Fin 512) : scaleOf x (ix2 i 0) = kscale (rowT x i) := by
  rw [show scaleOf x = numV (addi (expE (tOf x)) (broadcast S512x1 127#32)) from rfl, numV_at]
  unfold kscale
  rw [← tOf_at, ← expE_at]
  rfl

/-- The codes from the factors. -/
def codesV (x : Vec Ideal S512x768 .bf16) (v : FVec Ideal S512x1 .f32) : FVec Ideal S512x768 .fp8e5m2 :=
  truncf .fp8e5m2 (minimumf (broadcast S512x768 (Scalar.ofBits .f32 0x47600000#32))
    (maximumf (broadcast S512x768 (Scalar.ofBits .f32 0xC7600000#32))
      (mulf (extf .f32 x bitsLt_bf16_f32) (broadcastTo S512x768 v broadcasts_S512x1_S512x768)))) bitsLt_fp8e5m2_f32
theorem codesV_at (x : Vec Ideal S512x768 .bf16) (v : FVec Ideal S512x1 .f32) (i : Fin 512) (k : Fin 768) :
    codesV x v (ix2 i k) = code (x (ix2 i k)) (v (ix2 i 0)) := by
  unfold codesV code
  pointwise

theorem codesOf_at (x : Vec Ideal S512x768 .bf16) (i : Fin 512) (k : Fin 768) :
    codesOf x (ix2 i k) = code (x (ix2 i k)) (kinv (rowT x i)) := by
  rw [show codesOf x = codesV x (numV (subi (broadcast S512x1 127#32) (expE (tOf x)))) from rfl, codesV_at, numV_at]
  unfold kinv
  rw [← tOf_at, ← expE_at]
  rfl

end Cert.KernelIdeal.Body

end
-- ==== Proof.RefQuant.lean ====
/-
  The reference's quantiser, entry by entry over the extended reals.
-/
module

public import proofs.«01_k».proof.Proof.Gen.ReferenceIdeal.Value
public import proofs.«01_k».proof.Proof.Quant
public import proofs.«01_k».proof.Proof.Words
public import Idealize.ShloMosaic.Lib.Pointwise
public import Idealize.ShloMosaic.Lib.Pipeline.ValueKit
public import Idealize.ShloMosaic.PureOps.Ideal.Laws

@[expose] public section

noncomputable section

namespace Cert.ReferenceIdeal.Value

open Cert.ReferenceIdeal Cert.ReferenceIdeal.Gen
open Idealize.ShloMosaic Cert.Words Cert.Quant

/-! ## The quantiser -/

section
variable {F : FTy → Type} [FloatOps F]

/-- The rows' maxima; their scaled maxima. -/
def rowMax (v : FVec F S8192x768 .f32) : FVec F S8192x1 .f32 :=
  shapeCast S8192x1 (multiReduction .maximumf [1] S8192 v 0xFF800000#32 reduces_S8192x768_S8192 (.inl rfl) rfl) shapeCasts_S8192_S8192x1
def tRef (x : Vec F S8192x768 .bf16) : FVec F S8192x1 .f32 :=
  mulf (rowMax (absf (extf .f32 x bitsLt_bf16_f32))) (broadcast S8192x1 (Scalar.ofBits .f32 0x37924925#32))

/-- The candidate exponents. -/
def cands : FVec F S1x254 .f32 := sitofp .f32 (subi (iota .tc S1x254 32 [1] iota_S1x254_d1_w32) (broadcast S1x254 125#32))

/-- The least candidate whose power exceeds `t`. -/
def least (t : FVec F S8192x1 .f32) (q v : FVec F S1x254 .f32) : FVec F S8192x1 .f32 :=
  select (cmpf .olt t (broadcast S8192x1 (Scalar.ofBits .f32 0x00800000#32))) (broadcast S8192x1 (Scalar.ofBits .f32 0x00000000#32))
    (shapeCast S8192x1 (multiReduction .minimumf [1] S8192
      (select (cmpf .olt (broadcastTo S8192x254 t broadcasts_S8192x1_S8192x254) (broadcastTo S8192x254 v broadcasts_S1x254_S8192x254))
        (broadcastTo S8192x254 (shapeCast S1x254 q shapeCasts_S1x254_S1x254) broadcasts_S1x254_S8192x254)
        (broadcast S8192x254 (Scalar.ofBits .f32 0x43000000#32)))
      0x7F800000#32 reduces_S8192x254_S8192 (.inl rfl) rfl) shapeCasts_S8192_S8192x1)

theorem exponent_eq (x : Vec F S8192x768 .bf16) : k0_pay3 x = least (tRef x) cands (exp2 cands) := rfl

/-- The codes from the rows' exponents. -/
def codesRef (x : Vec F S8192x768 .bf16) (v : FVec F S8192x1 .f32) : FVec F S8192x768 .fp8e5m2 :=
  truncf .fp8e5m2 (minimumf (broadcast S8192x768 (Scalar.ofBits .f32 0x47600000#32))
    (maximumf (broadcast S8192x768 (Scalar.ofBits .f32 0xC7600000#32))
      (mulf (extf .f32 x bitsLt_bf16_f32) (broadcastTo S8192x768 v broadcasts_S8192x1_S8192x768)))) bitsLt_fp8e5m2_f32

/-- Zero minus the exponents. -/
def negated (v : FVec F S8192x1 .f32) : FVec F S8192x1 .f32 := subf (broadcast S8192x1 (Scalar.ofBits .f32 0x00000000#32)) v

theorem codes_eq (x : Vec F S8192x768 .bf16) : k0_pay5 x = codesRef x (exp2 (negated (k0_pay3 x))) := rfl
theorem scales_eq (x : Vec F S8192x768 .bf16) : k0_pay4 x = exp2 (k0_pay3 x) := rfl
end

theorem rowMax_at (v : FVec Ideal S8192x768 .f32) (i : Fin 8192) :
    rowMax v (ix2 i 0) = Finset.univ.fold max (Ideal.ofBits .f32 0xFF800000#32) (fun k : Fin 768 => (v (ix2 i k) : EReal)) := by
  unfold rowMax
  pointwise

theorem tRef_at (x : Vec Ideal S8192x768 .bf16) (i : Fin 8192) : tRef x (ix2 i 0) = rowT x i := by
  unfold tRef
  rw [mulf_at, rowMax_at]
  simp only [absf_at, extf_at]
  rfl

theorem cands_at (k : Fin 254) : (cands (F := Ideal)) (ix2 0 k) = Quant.cand k := by
  unfold cands
  pointwise
  rfl

theorem least_at (t : FVec Ideal S8192x1 .f32) (q v : FVec Ideal S1x254 .f32) (i : Fin 8192) :
    least t q v (ix2 i 0) = if t (ix2 i 0) < Ideal.ofBits .f32 0x00800000#32 then (0 : EReal)
      else Finset.univ.fold min (Ideal.ofBits .f32 0x7F800000#32) fun k : Fin 254 =>
        if t (ix2 i 0) < v (ix2 0 k) then q (ix2 0 k) else Ideal.ofBits .f32 0x43000000#32 := by
  unfold least
  pointwise

theorem exponent_at (x : Vec Ideal S8192x768 .bf16) (i : Fin 8192) : k0_pay3 x (ix2 i 0) = Quant.rexp (rowT x i) := by
  rw [exponent_eq, least_at, tRef_at]
  simp only [exp2_at, cands_at]
  rfl

theorem codesRef_at (x : Vec Ideal S8192x768 .bf16) (v : FVec Ideal S8192x1 .f32) (i : Fin 8192) (k : Fin 768) :
    codesRef x v (ix2 i k) = min (Ideal.ofBits .f32 0x47600000#32) (max (Ideal.ofBits .f32 0xC7600000#32) (x (ix2 i k) * v (ix2 i 0))) := by
  unfold codesRef
  pointwise

theorem negated_at (v : FVec Ideal S8192x1 .f32) (i : Fin 8192) : negated v (ix2 i 0) = (0 - v (ix2 i 0) : EReal) := by
  unfold negated
  pointwise

theorem codes_at (x : Vec Ideal S8192x768 .bf16) (i : Fin 8192) (k : Fin 768) :
    k0_pay5 x (ix2 i k) = code (x (ix2 i k)) (Ideal.exp2 (0 - Quant.rexp (rowT x i))) := by
  rw [codes_eq, codesRef_at, exp2_at, negated_at, exponent_at]
  rfl

theorem scale_at (x : Vec Ideal S8192x768 .bf16) (i : Fin 8192) : k0_pay4 x (ix2 i 0) = Ideal.exp2 (Quant.rexp (rowT x i)) := by
  rw [scales_eq, exp2_at, exponent_at]

end Cert.ReferenceIdeal.Value

end
-- ==== Proof.RefVal.lean ====
/-
  The reference's result from its arguments, entry by entry over the extended reals.
-/
module

public import proofs.«01_k».proof.Proof.Gen.ReferenceIdeal.Value
public import proofs.«01_k».proof.Proof.Quant
public import proofs.«01_k».proof.Proof.Words
public import proofs.«01_k».proof.Proof.RefQuant
public import Idealize.ShloMosaic.Lib.Pointwise
public import Idealize.ShloMosaic.Lib.Pipeline.ValueKit
public import Idealize.ShloMosaic.PureOps.Ideal.Laws

@[expose] public section

noncomputable section

namespace Cert.ReferenceIdeal.Value

open Cert.ReferenceIdeal Cert.ReferenceIdeal.Gen
open Idealize.ShloMosaic Cert.Words Cert.Quant

/-! ## The product -/

theorem final_at (a : FVec Ideal S8192x1 .f32) (b : IVec S8192x1 32) (c d e : BitVec 32) (f g : FVec Ideal S8192x4096 .f32)
    (h : IVec S8192x1 1) (l : IVec S8192x1 32) (s3 s2 s1 s0 : Vec Ideal S1x4096 .f32) (i : Fin 8192) (j : Fin 4096) :
    k0_pay1 a b c d e f g h l s3 s2 s1 s0 (ix2 i j)
      = (Scalar.select (IntOp.andi (h (ix2 i 0)) (IntOp.cmpi .slt (b (ix2 i 0)) (l (ix2 i 0)))) (g (ix2 i j)) (f (ix2 i j)) * a (ix2 i 0)
        * Scalar.select (IntOp.cmpi .slt (b (ix2 i 0)) c) (s0 (ix2 0 j))
          (Scalar.select (IntOp.cmpi .slt (b (ix2 i 0)) d) (s1 (ix2 0 j))
            (Scalar.select (IntOp.cmpi .slt (b (ix2 i 0)) e) (s2 (ix2 0 j)) (s3 (ix2 0 j)))) : EReal) := by
  unfold k0_pay1
  pointwise

/-- A row's product with a column of one expert's matrix. -/
def dot (v : FVec Ideal S8192x768 .fp8e5m2) (w : Vec Ideal S1x4096x768 .fp8e4m3) (i : Fin 8192) (j : Fin 4096) : EReal :=
  ∑ x : Fin 768, (v (ix2 i x) : EReal) * w (ix3 0 j x)

theorem acc_at (v : FVec Ideal S8192x768 .fp8e5m2) (b : IVec S8192x1 32) (z : FVec Ideal S8192x4096 .f32) (c : BitVec 32)
    (w0 w1 w2 : Vec Ideal S1x4096x768 .fp8e4m3) (n1 n2 : Elt Ideal .i32) (i : Fin 8192) (j : Fin 4096) :
    k0_pay8 v b z c (k0_pay7 w0) n1 w1 n2 w2 (ix2 i j)
      = Scalar.select (IntOp.andi (IntOp.cmpi .sge (b (ix2 i 0)) (Scalar.addi c n1))
          (IntOp.cmpi .slt (b (ix2 i 0)) (Scalar.addi (Scalar.addi c n1) n2))) (dot v w2 i j)
        (Scalar.select (IntOp.andi (IntOp.cmpi .sge (b (ix2 i 0)) c) (IntOp.cmpi .slt (b (ix2 i 0)) (Scalar.addi c n1))) (dot v w1 i j)
          (Scalar.select (IntOp.andi (IntOp.cmpi .sge (b (ix2 i 0)) 0#32) (IntOp.cmpi .slt (b (ix2 i 0)) c)) (dot v w0 i j) (z (ix2 i j)))) := by
  unfold k0_pay8 k0_pay7 dot
  pointwise

theorem last_at (v : FVec Ideal S8192x768 .fp8e5m2) (w : Vec Ideal S1x4096x768 .fp8e4m3) (i : Fin 8192) (j : Fin 4096) :
    k0_pay9 v w (ix2 i j) = dot v w i j := by
  unfold k0_pay9 dot
  pointwise

/-- The reference's result from its arguments. -/
def result (T : Vec Ideal S4 .i32) (x : Vec Ideal S8192x768 .bf16) (W : Vec Ideal S4x4096x768 .fp8e4m3) (S : Vec Ideal S4x4096 .f32) :
    FVec Ideal S8192x4096 .bf16 :=
  let n0 := View.ld T (Rect.unit ![0] ![1] inb_S4_S1_0) (Shape.Idx.first (numel1_S1.symm ▸ Nat.one_pos))
  let n1 := View.ld T (Rect.unit ![1] ![1] inb_S4_S1_1) (Shape.Idx.first (numel1_S1.symm ▸ Nat.one_pos))
  let n2 := View.ld T (Rect.unit ![2] ![1] inb_S4_S1_2) (Shape.Idx.first (numel1_S1.symm ▸ Nat.one_pos))
  let n3 := View.ld T (Rect.unit ![3] ![1] inb_S4_S1_3) (Shape.Idx.first (numel1_S1.symm ▸ Nat.one_pos))
  let c := Scalar.addi 0#32 n0
  let b := iota Kind.tc S8192x1 32 [0] iota_S8192x1_d0_w32
  k0_pay1 (k0_pay4 x) b c (Scalar.addi c n1) (Scalar.addi (Scalar.addi c n1) n2)
    (k0_pay8 (k0_pay5 x) b k0_pay6 c (k0_pay7 (View.ld W (Rect.unit ![0, 0, 0] ![1, 4096, 768] inb_S4x4096x768_S1x4096x768_0_0_0)))
      n1 (View.ld W (Rect.unit ![1, 0, 0] ![1, 4096, 768] inb_S4x4096x768_S1x4096x768_1_0_0))
      n2 (View.ld W (Rect.unit ![2, 0, 0] ![1, 4096, 768] inb_S4x4096x768_S1x4096x768_2_0_0)))
    (k0_pay9 (k0_pay5 x) (View.ld W (Rect.unit ![3, 0, 0] ![1, 4096, 768] inb_S4x4096x768_S1x4096x768_3_0_0)))
    (k0_pay10 b c n1 n2) (k0_pay11 c n1 n2 n3)
    (View.ld S (Rect.unit ![3, 0] ![1, 4096] inb_S4x4096_S1x4096_3_0))
    (View.ld S (Rect.unit ![2, 0] ![1, 4096] inb_S4x4096_S1x4096_2_0))
    (View.ld S (Rect.unit ![1, 0] ![1, 4096] inb_S4x4096_S1x4096_1_0))
    (View.ld S (Rect.unit ![0, 0] ![1, 4096] inb_S4x4096_S1x4096_0_0))

theorem ldT (T : Vec Ideal S4 .i32) (k : Fin 4) (h) (x : (⟨1, ![1]⟩ : Shape).Idx) :
    View.ld T (Rect.unit (s := S4) ![k.val] ![1] h) x = T (ix1 k) := by
  show T _ = T _
  congr 1
  funext a
  apply Fin.ext
  fin_cases a
  show k.val + 1 * (x 0).val = k.val
  have : (x 0).val < 1 := (x 0).isLt
  omega

theorem ldW (W : Vec Ideal S4x4096x768 .fp8e4m3) (g : Fin 4) (h) (j : Fin 4096) (k : Fin 768) :
    View.ld W (Rect.unit (s := S4x4096x768) ![g.val, 0, 0] ![1, 4096, 768] h) (ix3 0 j k) = W (ix3 g j k) := by
  show W _ = W _
  congr 1
  funext a
  apply Fin.ext
  fin_cases a <;> simp [LoadRect.idx, ix3]

theorem ldS (S : Vec Ideal S4x4096 .f32) (g : Fin 4) (h) (j : Fin 4096) :
    View.ld S (Rect.unit (s := S4x4096) ![g.val, 0] ![1, 4096] h) (ix2 0 j) = S (ix2 g j) := by
  show S _ = S _
  congr 1
  funext a
  apply Fin.ext
  fin_cases a <;> simp [LoadRect.idx, ix2]

/-- An expert's product. -/
def dotAt (v : FVec Ideal S8192x768 .fp8e5m2) (W : Vec Ideal S4x4096x768 .fp8e4m3) (g : Fin 4) (i : Fin 8192) (j : Fin 4096) : EReal :=
  ∑ x : Fin 768, (v (ix2 i x) : EReal) * W (ix3 g j x)

theorem dot_ld (v : FVec Ideal S8192x768 .fp8e5m2) (W : Vec Ideal S4x4096x768 .fp8e4m3) (g : Fin 4) (h) (i : Fin 8192) (j : Fin 4096) :
    dot v (View.ld W (Rect.unit (s := S4x4096x768) ![g.val, 0, 0] ![1, 4096, 768] h)) i j = dotAt v W g i j :=
  Finset.sum_congr rfl fun k _ => congrArg _ (ldW W g h j k)

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ge2_at (b : IVec S8192x1 32) (c : BitVec 32) (n1 n2 : Elt Ideal .i32) (i : Fin 8192) :
    k0_pay10 (F := Ideal) b c n1 n2 (ix2 i 0) = IntOp.cmpi .sge (b (ix2 i 0)) (Scalar.addi (Scalar.addi c n1) n2) := rfl
theorem end3_at (c : BitVec 32) (n1 n2 n3 : Elt Ideal .i32) (i : Fin 8192) :
    k0_pay11 (F := Ideal) c n1 n2 n3 (ix2 i 0) = Scalar.addi (Scalar.addi (Scalar.addi c n1) n2) n3 := rfl

theorem row_at (i : Fin 8192) : (iota Kind.tc S8192x1 32 [0] iota_S8192x1_d0_w32) (ix2 i 0) = BitVec.ofNat 32 i.val := by
  pointwise

/-- The reference's entry in a row of group `g`. -/
theorem result_at (T : Vec Ideal S4 .i32) (x : Vec Ideal S8192x768 .bf16) (W : Vec Ideal S4x4096x768 .fp8e4m3) (S : Vec Ideal S4x4096 .f32)
    (n : Fin 4 → ℕ) (hT : ∀ k, T (ix1 k) = BitVec.ofNat 32 (n k)) (hn : cut n 4 = 8192) (g : Fin 4)
    (i : Fin 8192) (j : Fin 4096) (h1 : cut n g.castSucc ≤ i.val) (h2 : i.val < cut n g.succ) :
    result T x W S (ix2 i j) = (dotAt (k0_pay5 x) W g i j * k0_pay4 x (ix2 i 0) * S (ix2 g j) : EReal) := by
  have hi := i.isLt
  have hn' : n 0 + n 1 + n 2 + n 3 = 8192 := hn
  unfold result
  rw [final_at, acc_at, last_at, ge2_at, end3_at, row_at,
    show View.ld T (Rect.unit ![0] ![1] inb_S4_S1_0) _ = T (ix1 0) from ldT T 0 _ _,
    show View.ld T (Rect.unit ![1] ![1] inb_S4_S1_1) _ = T (ix1 1) from ldT T 1 _ _,
    show View.ld T (Rect.unit ![2] ![1] inb_S4_S1_2) _ = T (ix1 2) from ldT T 2 _ _,
    show View.ld T (Rect.unit ![3] ![1] inb_S4_S1_3) _ = T (ix1 3) from ldT T 3 _ _,
    hT, hT, hT, hT,
    show ∀ v, dot v (View.ld W (Rect.unit ![0, 0, 0] ![1, 4096, 768] inb_S4x4096x768_S1x4096x768_0_0_0)) i j = dotAt v W 0 i j from fun v => dot_ld v W 0 _ i j,
    show ∀ v, dot v (View.ld W (Rect.unit ![1, 0, 0] ![1, 4096, 768] inb_S4x4096x768_S1x4096x768_1_0_0)) i j = dotAt v W 1 i j from fun v => dot_ld v W 1 _ i j,
    show ∀ v, dot v (View.ld W (Rect.unit ![2, 0, 0] ![1, 4096, 768] inb_S4x4096x768_S1x4096x768_2_0_0)) i j = dotAt v W 2 i j from fun v => dot_ld v W 2 _ i j,
    show ∀ v, dot v (View.ld W (Rect.unit ![3, 0, 0] ![1, 4096, 768] inb_S4x4096x768_S1x4096x768_3_0_0)) i j = dotAt v W 3 i j from fun v => dot_ld v W 3 _ i j,
    show View.ld S (Rect.unit ![0, 0] ![1, 4096] inb_S4x4096_S1x4096_0_0) (ix2 0 j) = S (ix2 0 j) from ldS S 0 _ j,
    show View.ld S (Rect.unit ![1, 0] ![1, 4096] inb_S4x4096_S1x4096_1_0) (ix2 0 j) = S (ix2 1 j) from ldS S 1 _ j,
    show View.ld S (Rect.unit ![2, 0] ![1, 4096] inb_S4x4096_S1x4096_2_0) (ix2 0 j) = S (ix2 2 j) from ldS S 2 _ j,
    show View.ld S (Rect.unit ![3, 0] ![1, 4096] inb_S4x4096_S1x4096_3_0) (ix2 0 j) = S (ix2 3 j) from ldS S 3 _ j]
  generalize k0_pay5 x = v
  generalize k0_pay4 x (ix2 i 0) = s
  rw [show Scalar.addi 0#32 (BitVec.ofNat 32 (n 0)) = BitVec.ofNat 32 (n 0) from BitVec.zero_add _, addi_small, addi_small, addi_small,
    show (0#32 : BitVec 32) = BitVec.ofNat 32 0 from rfl]
  rw [sge_small _ _ (by omega) (by omega), sge_small _ _ (by omega) (by omega), sge_small _ _ (by omega) (by omega),
    sge_small _ _ (by omega) (by omega), slt_cmpi _ _ (by omega) (by omega), slt_cmpi _ _ (by omega) (by omega),
    slt_cmpi _ _ (by omega) (by omega), slt_cmpi _ _ (by omega) (by omega)]
  simp only [andi_ofBool, select_ofBool]
  fin_cases g
  · change 0 ≤ _ at h1; change _ < n 0 at h2
    rw [if_neg (by omega), if_neg (by omega), if_neg (by omega), if_pos (by omega), if_pos (by omega)]
    rfl
  · change n 0 ≤ _ at h1; change _ < n 0 + n 1 at h2
    rw [if_neg (by omega), if_neg (by omega), if_pos (by omega), if_neg (by omega), if_pos (by omega)]
    rfl
  · change n 0 + n 1 ≤ _ at h1; change _ < n 0 + n 1 + n 2 at h2
    rw [if_neg (by omega), if_pos (by omega), if_neg (by omega), if_neg (by omega), if_pos (by omega)]
    rfl
  · change n 0 + n 1 + n 2 ≤ _ at h1; change _ < n 0 + n 1 + n 2 + n 3 at h2
    rw [if_pos (by omega), if_neg (by omega), if_neg (by omega), if_neg (by omega)]
    rfl

end Cert.ReferenceIdeal.Value

end
-- ==== Proof.RefRun.lean ====
/-
  What every run of the reference ends with.
-/
module

public import proofs.«01_k».proof.Proof.Gen.ReferenceIdeal.Value
public import proofs.«01_k».proof.Proof.Quant
public import proofs.«01_k».proof.Proof.Words
public import proofs.«01_k».proof.Proof.RefVal
public import Idealize.ShloMosaic.Lib.Pointwise
public import Idealize.ShloMosaic.Lib.Pipeline.ValueKit
public import Idealize.ShloMosaic.Lib.Pipeline.ReadBack
public import Idealize.ShloMosaic.PureOps.Ideal.Laws

@[expose] public section

noncomputable section

namespace Cert.ReferenceIdeal.Value

open Cert.ReferenceIdeal Cert.ReferenceIdeal.Gen
open Idealize.ShloMosaic Cert.Words Cert.Quant
open Idealize.ShloMosaic.TcCoe
open Idealize.SL.Sem

/-! ## The run's result -/

variable (m : (ℓ : Loc nD τ sig) → Buf (Elt Ideal) ℓ)

/-- Every window's one block starts at the array's start. -/
theorem idx : ∀ t : Fin cfg0.N, win0_0.index t = ![0] ∧ win0_1.index t = ![0, 0] ∧ win0_2.index t = ![0, 0, 0] ∧ win0_3.index t = ![0, 0]
    ∧ win0_4.index t = ![0, 0] := by decide +kernel

theorem blk0 (c : Dev nD) (t : Fin cfg0.N) : iblk m c 0 t = m ((c.tc : Thread nD τ).loc main_arg1) := by
  funext y
  blk_ext [iblk, V, idx t]
theorem blk1 (c : Dev nD) (t : Fin cfg0.N) : iblk m c 1 t = m ((c.tc : Thread nD τ).loc main_arg0) := by
  funext y
  blk_ext [iblk, V, idx t]
theorem blk2 (c : Dev nD) (t : Fin cfg0.N) : iblk m c 2 t = m ((c.tc : Thread nD τ).loc main_arg2) := by
  funext y
  blk_ext [iblk, V, idx t]
theorem blk3 (c : Dev nD) (t : Fin cfg0.N) : iblk m c 3 t = m ((c.tc : Thread nD τ).loc main_arg3) := by
  funext y
  blk_ext [iblk, V, idx t]

theorem out_eq (c : Dev nD) : (dats m 0 c).arrAt 4 cfg0.N = result (m ((c.tc : Thread nD τ).loc main_arg1)) (m ((c.tc : Thread nD τ).loc main_arg0))
      (m ((c.tc : Thread nD τ).loc main_arg2)) (m ((c.tc : Thread nD τ).loc main_arg3)) := by
  refine (dats m 0 c).arrAt_eq_of_covers 4 _ (by decide +kernel) fun t hf y => ?_
  have hy : ((cfg0.win 4).blk t).view.emb y = y := by
    funext a
    apply Fin.ext
    blk_simp [idx t]
    fin_cases a <;> simp
  rw [hy]
  blk_simp
  rw [after0_4]
  unfold outsAt0
  rw [blk0 m c t, blk1 m c t, blk2 m c t, blk3 m c t]
  generalize m ((c.tc : Thread nD τ).loc main_arg0) = x
  generalize m ((c.tc : Thread nD τ).loc main_arg1) = T
  generalize m ((c.tc : Thread nD τ).loc main_arg2) = W
  generalize m ((c.tc : Thread nD τ).loc main_arg3) = S
  frame_out
  simp only [read_unread_whole]
  rfl

/-- The reference runs, ending with its result and its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0) = result (m ((c.tc : Thread nD τ).loc main_arg1)) (m ((c.tc : Thread nD τ).loc main_arg0))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq m c), (h c).2⟩) (run_blocks m ρ)

end Cert.ReferenceIdeal.Value

end
-- ==== Proof.Pre.lean ====
/-
  What the precondition says: the entries' bound and the group sizes as naturals.
-/
module

public import proofs.«01_k».proof.Pre_valid
public import proofs.«01_k».proof.Proof.Gen.Pre_valid
public import proofs.«01_k».proof.Proof.Quant
public import proofs.«01_k».proof.Proof.Words

@[expose] public section

noncomputable section

namespace Cert.Pre_valid

open Idealize.ShloMosaic Cert.Words Cert.Quant
open Facts

attribute [local instance] Cert.Pre_valid.Gen.facts

theorem and_one (a b : BitVec 1) : IntOp.andi a b = 1#1 ↔ a = 1#1 ∧ b = 1#1 := by revert a b; decide

theorem fold4 {α : Type} (op : α → α → α) [Std.Commutative op] [Std.Associative op] (b : α) (f : Fin 4 → α) :
    Finset.univ.fold op b f = op (f 0) (op (f 1) (op (f 2) (op (f 3) b))) := rfl

variable (x : FVec Ideal S8192x768 .bf16) (T : IVec S4 32) (W : FVec Ideal S4x4096x768 .fp8e4m3) (S : FVec Ideal S4x4096 .f32)

theorem both (h : fn x T W S = fun _ => 1#1) (i : Fin 8192) (k : Fin 768) :
    max (x (ix2 i k) : EReal) (-(x (ix2 i k) : EReal)) ≤ Ideal.ofBits .f32 0x7F7F0000#32
      ∧ (∀ g : Fin 4, IntOp.cmpi .sge (T (ix1 g)) 0#32 = 1#1 ∧ IntOp.cmpi .sle (T (ix1 g)) 8192#32 = 1#1)
      ∧ IntOp.addi (T (ix1 0)) (IntOp.addi (T (ix1 1)) (IntOp.addi (T (ix1 2)) (IntOp.addi (T (ix1 3)) 0#32))) = 8192#32 := by
  have h := congrFun h (ix2 i k)
  unfold fn at h
  pointwise at h
  rw [fold4, fold4] at h
  simp only [and_one] at h
  obtain ⟨h1, ⟨⟨h20, h30⟩, ⟨h21, h31⟩, ⟨h22, h32⟩, ⟨h23, h33⟩, -⟩, h4⟩ := h
  refine ⟨of_decide_eq_true ((ofBool_one _).mp h1), fun g => ?_, ?_⟩
  · fin_cases g
    · exact ⟨h20, h30⟩
    · exact ⟨h21, h31⟩
    · exact ⟨h22, h32⟩
    · exact ⟨h23, h33⟩
  · exact eq_of_beq ((ofBool_one _).mp h4)

/-- The entries are bounded. -/
theorem entry (h : fn x T W S = fun _ => 1#1) (i : Fin 8192) (k : Fin 768) :
    max (x (ix2 i k) : EReal) (-(x (ix2 i k) : EReal)) ≤ Ideal.ofBits .f32 0x7F7F0000#32 := (both x T W S h i k).1

/-- The sizes are naturals whose sum is the number of rows. -/
theorem sizes (h : fn x T W S = fun _ => 1#1) : ∃ n : Fin 4 → ℕ, (∀ g, T (ix1 g) = BitVec.ofNat 32 (n g)) ∧ cut n 4 = 8192 := by
  obtain ⟨-, hb, hs⟩ := both x T W S h 0 0
  have hn : ∀ g, (T (ix1 g)).toNat ≤ 8192 := fun g => by
    obtain ⟨h1, h2⟩ := hb g
    have h1 := of_decide_eq_true ((ofBool_one _).mp h1)
    have h2 := of_decide_eq_true ((ofBool_one _).mp h2)
    rw [show (0#32 : BitVec 32).toInt = 0 from rfl] at h1
    rw [show (8192#32 : BitVec 32).toInt = 8192 from rfl] at h2
    rw [BitVec.toInt_eq_toNat_cond] at h1 h2
    have := (T (ix1 g)).isLt
    split at h1 <;> split at h2 <;> omega
  refine ⟨fun g => (T (ix1 g)).toNat, fun g => (BitVec.ofNat_toNat ..).symm ▸ (BitVec.setWidth_eq _).symm, ?_⟩
  have hs := congrArg BitVec.toNat hs
  simp only [IntOp.addi, BitVec.toNat_add, BitVec.toNat_ofNat] at hs
  show (T (ix1 0)).toNat + (T (ix1 1)).toNat + (T (ix1 2)).toNat + (T (ix1 3)).toNat = 8192
  have h0 := hn 0
  have h1 := hn 1
  have h2 := hn 2
  have h3 := hn 3
  omega

end Cert.Pre_valid

end
-- ==== Proof.Agree.lean ====
/-
  The kernel's result is the reference's, over the extended reals.
-/
module

public import proofs.«01_k».proof.Defs
public import proofs.«01_k».proof.Proof.Kept
public import proofs.«01_k».proof.Proof.KerQuant
public import proofs.«01_k».proof.Proof.RefRun
public import proofs.«01_k».proof.Proof.Pre

@[expose] public section

noncomputable section

namespace Cert.KernelIdeal.Run

open Cert.KernelIdeal Cert.KernelIdeal.Gen Cert.KernelIdeal.Body
open Idealize.ShloMosaic
open Idealize.ShloMosaic.TcCoe
open Idealize.ShloMosaic.Pipeline (Window)
open Cert.Words Cert.Quant

attribute [local instance] Cert.Pre_valid.Gen.facts

variable (m : (ℓ : Loc nD τ sig) → Buf (Elt Ideal) ℓ)

/-- Block `t` of the gradient is row block `t`. -/
theorem index_in (t : Fin grid0.N) : (win0 (adm m 0) 0).index t = ![t.val, 0] := by
  fin_cases t <;> (funext a; fin_cases a <;> rfl)

/-- The rows of the sixteen blocks are rows of the array. -/
theorem row_lt (t : Fin grid0.N) (i : Fin 512) : 512 * t.val + i.val < 8192 := by
  have h1 : t.val < 16 := t.isLt
  have h2 := i.isLt
  omega

/-- The place in the output of an element of a block. -/
theorem place_at (t : Fin grid0.N) (i : Fin 512) (j : Fin 4096) : place m t (ix2 i j) = ix2 ⟨512 * t.val + i.val, row_lt t i⟩ j := by
  funext a
  apply Fin.ext
  unfold place
  rw [Window.rect_emb_val (win0 (adm m 0) 3) t _ a rfl, index_out]
  fin_cases a
  · show t.val * 512 + i.val = 512 * t.val + i.val
    omega
  · show 0 * 4096 + j.val = j.val
    omega

/-- An element of a row block. -/
theorem xblk_at (c : Dev nD) (t : Fin grid0.N) (i : Fin 512) (k : Fin 768) :
    xblk m c t (ix2 i k) = (m ((c.tc : Thread nD τ).loc main_arg0) : Vec Ideal S8192x768 .bf16) (ix2 ⟨512 * t.val + i.val, row_lt t i⟩ k) := by
  show (m ((c.tc : Thread nD τ).loc main_arg0) : Vec Ideal S8192x768 .bf16) (((win0 (adm m 0) 0).rect t).emb (ix2 i k)) = _
  congr 1
  funext a
  apply Fin.ext
  rw [Window.rect_emb_val (win0 (adm m 0) 0) t _ a rfl, index_in]
  fin_cases a
  · show t.val * 512 + i.val = 512 * t.val + i.val
    omega
  · show 0 * 768 + k.val = k.val
    omega

/-- The first row of block `t`, as the kernel computes it. -/
theorem rowOf_at (t : Fin grid0.N) : rowOf (grid0.coords t) = BitVec.ofNat 32 (512 * t.val) := by
  fin_cases t <;> rfl

/-- Every row lies in a group. -/
theorem group (n : Fin 4 → ℕ) (hn : cut n 4 = 8192) (i : ℕ) (hi : i < 8192) :
    ∃ g : Fin 4, cut n g.castSucc ≤ i ∧ i < cut n g.succ := by
  have hn : n 0 + n 1 + n 2 + n 3 = 8192 := hn
  by_cases h0 : i < n 0
  · exact ⟨0, Nat.zero_le _, h0⟩
  by_cases h1 : i < n 0 + n 1
  · exact ⟨1, not_lt.mp h0, h1⟩
  by_cases h2 : i < n 0 + n 1 + n 2
  · exact ⟨2, not_lt.mp h1, h2⟩
  · exact ⟨3, not_lt.mp h2, by show i < n 0 + n 1 + n 2 + n 3; omega⟩

/-- After the kernel's run the output holds the reference's result. -/
theorem out_eq (c : Dev nD) (h : Cert.Pre_valid.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (r : PUnit × MemSt nD τ sig (Elt Ideal)) (hr : Post m r) :
    r.2.mem ((c.tc : Thread nD τ).loc main_v0) = Cert.ReferenceIdeal.Value.result (m ((c.tc : Thread nD τ).loc main_arg1))
      (m ((c.tc : Thread nD τ).loc main_arg0)) (m ((c.tc : Thread nD τ).loc main_arg2)) (m ((c.tc : Thread nD τ).loc main_arg3)) := by
  obtain ⟨n, hT, hn⟩ := Cert.Pre_valid.sizes _ _ _ _ h
  have hx := Cert.Pre_valid.entry _ _ _ _ h
  funext z
  obtain ⟨I, j, rfl⟩ : ∃ (I : Fin 8192) (j : Fin 4096), z = ix2 I j := ⟨z 0, z 1, eq_ix2 z⟩
  obtain ⟨t, i, hI⟩ : ∃ (t : Fin grid0.N) (i : Fin 512), I = ⟨512 * t.val + i.val, row_lt t i⟩ :=
    ⟨⟨I.val / 512, by have := I.isLt; show _ < 16; omega⟩, ⟨I.val % 512, Nat.mod_lt _ (by norm_num)⟩,
      Fin.ext (by show I.val = 512 * (I.val / 512) + I.val % 512; omega)⟩
  have ht : t.val < 16 := t.isLt
  obtain ⟨g, h1, h2⟩ := group n hn I.val I.isLt
  obtain ⟨Y, hY⟩ := hr.2.2 c t
  have hy := hY (ix2 i j)
  rw [place_at, ← hI, rowOf_at] at hy
  refine hy.trans ?_
  have hI' : I.val = 512 * t.val + i.val := congrArg Fin.val hI
  rw [block_at _ _ g _ n hT hn _ (512 * t.val) Y (by omega) i j (hI' ▸ h1) (hI' ▸ h2)]
  rw [Cert.ReferenceIdeal.Value.result_at _ _ _ _ n hT hn g I j h1 h2]
  have hrow : rowT (xblk m c t) i = rowT (m ((c.tc : Thread nD τ).loc main_arg0) : Vec Ideal S8192x768 .bf16) I := by
    unfold rowT
    simp only [xblk_at, ← hI]
  have hlt := rowT_lt (m ((c.tc : Thread nD τ).loc main_arg0) : Vec Ideal S8192x768 .bf16) I (hx I)
  unfold prodAt Cert.ReferenceIdeal.Value.dotAt
  rw [scaleOf_at, Cert.ReferenceIdeal.Value.scale_at, hrow, Quant.scale_eq _ hlt]
  simp only [codesOf_at, Cert.ReferenceIdeal.Value.codes_at, hrow, Quant.inv_eq _ hlt, xblk_at, ← hI]

end Cert.KernelIdeal.Run

namespace Cert.Proof

open Idealize.ShloMosaic Idealize.SL.Sem

attribute [local instance] Cert.Pre_valid.Gen.facts

/-- The kernel and the reference, run on equal arguments, end with equal outputs. -/
theorem agree : Cert.algebraic_KernelIdeal_ReferenceIdeal_pre_valid (hKernelIdeal := Cert.KernelIdeal.Gen.facts)
    (hReferenceIdeal := Cert.ReferenceIdeal.Gen.facts) (hPre_valid := Cert.Pre_valid.Gen.facts) := by
  intro m g m' g' hpre hargs
  refine ⟨_, (θ_run _ _ _).mono (fun r hr c => ⟨Cert.KernelIdeal.Run.out_eq m c (hpre c) r hr, hr.1 c⟩)
    (Cert.KernelIdeal.Run.run m g), (θ_run _ _ _).mono (fun r hr c => ?_) (Cert.ReferenceIdeal.Value.run m' g')⟩
  obtain ⟨h0, h1, h2, h3⟩ := hargs c
  refine ⟨(hr c).1.trans ?_, (hr c).2⟩
  rw [h0, h1, h2, h3]

end Cert.Proof

end
-- ==== Proof.lean ====
/-
  The claims: the frames of the three programs, and that the idealized kernel and the idealized reference agree.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_valid
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_valid.Gen.facts,
    kernel, kernelIdeal, fun m g _ => Cert.KernelIdeal.Run.frame m g,
    fun m g _ => Cert.ReferenceIdeal.Gen.frame m g, fun m g _ => Cert.ReferenceIdeal.Gen.frame m g, trivial, agree⟩

end Cert.Proof

end
